-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x5120 : Shape := ⟨3, ![16, 1, 5120]⟩
abbrev S5120x6912 : Shape := ⟨2, ![5120, 6912]⟩
abbrev S6912 : Shape := ⟨1, ![6912]⟩
abbrev S2x8x5120 : Shape := ⟨3, ![2, 8, 5120]⟩
abbrev S54x128 : Shape := ⟨2, ![54, 128]⟩
abbrev S1x16 : Shape := ⟨2, ![1, 16]⟩
abbrev S16x3456 : Shape := ⟨2, ![16, 3456]⟩
abbrev S16x5120 : Shape := ⟨2, ![16, 5120]⟩
abbrev S32x5120 : Shape := ⟨2, ![32, 5120]⟩
abbrev S16x6912 : Shape := ⟨2, ![16, 6912]⟩
abbrev S_ : Shape := ⟨0, ![]⟩
abbrev S5 : Shape := ⟨1, ![5]⟩
abbrev S1 : Shape := ⟨1, ![1]⟩
abbrev S2304x6912 : Shape := ⟨2, ![2304, 6912]⟩
abbrev S1280x6912 : Shape := ⟨2, ![1280, 6912]⟩
abbrev S768x6912 : Shape := ⟨2, ![768, 6912]⟩
abbrev S512x6912 : Shape := ⟨2, ![512, 6912]⟩
abbrev S256x6912 : Shape := ⟨2, ![256, 6912]⟩
abbrev S16 : Shape := ⟨1, ![16]⟩
abbrev S16x1 : Shape := ⟨2, ![16, 1]⟩
abbrev S16x252 : Shape := ⟨2, ![16, 252]⟩
abbrev S16x16 : Shape := ⟨2, ![16, 16]⟩
abbrev S32x2304 : Shape := ⟨2, ![32, 2304]⟩
abbrev S2304x3328 : Shape := ⟨2, ![2304, 3328]⟩
abbrev S32x3328 : Shape := ⟨2, ![32, 3328]⟩
abbrev S16x3328 : Shape := ⟨2, ![16, 3328]⟩
abbrev S2304x128 : Shape := ⟨2, ![2304, 128]⟩
abbrev S32x128 : Shape := ⟨2, ![32, 128]⟩
abbrev S16x128 : Shape := ⟨2, ![16, 128]⟩
abbrev S32x1280 : Shape := ⟨2, ![32, 1280]⟩
abbrev S1280x3328 : Shape := ⟨2, ![1280, 3328]⟩
abbrev S1280x128 : Shape := ⟨2, ![1280, 128]⟩
abbrev S32x768 : Shape := ⟨2, ![32, 768]⟩
abbrev S768x3328 : Shape := ⟨2, ![768, 3328]⟩
abbrev S768x128 : Shape := ⟨2, ![768, 128]⟩
abbrev S32x512 : Shape := ⟨2, ![32, 512]⟩
abbrev S512x3328 : Shape := ⟨2, ![512, 3328]⟩
abbrev S512x128 : Shape := ⟨2, ![512, 128]⟩
abbrev S16x256 : Shape := ⟨2, ![16, 256]⟩
abbrev S32x256 : Shape := ⟨2, ![32, 256]⟩
abbrev S256x256 : Shape := ⟨2, ![256, 256]⟩
abbrev S1x128 : Shape := ⟨2, ![1, 128]⟩
abbrev S256x128 : Shape := ⟨2, ![256, 128]⟩

abbrev nBuf : Space → Nat
  | .hbm => 9
  | .vmem => 10
  | .smem => 0
  | _ => 0

abbrev bufTy : (tb : Table) → Fin (tcTables nBuf tb) → BufTy
  | .hbm, ⟨0, _⟩ => ⟨S16x1x5120, .bf16⟩
  | .hbm, ⟨1, _⟩ => ⟨S5120x6912, .fp8e4m3⟩
  | .hbm, ⟨2, _⟩ => ⟨S6912, .f32⟩
  | .hbm, ⟨3, _⟩ => ⟨S2x8x5120, .bf16⟩
  | .hbm, ⟨4, _⟩ => ⟨S54x128, .f32⟩
  | .hbm, ⟨5, _⟩ => ⟨S1x16, .f32⟩
  | .hbm, ⟨6, _⟩ => ⟨S16x3456, .fp8e4m3⟩
  | .hbm, ⟨7, _⟩ => ⟨S16x5120, .fp8e4m3⟩
  | .hbm, ⟨8, _⟩ => ⟨S1x16, .f32⟩
  | .local _ .vmem, ⟨0, _⟩ => ⟨S1x16, .f32⟩
  | .local _ .vmem, ⟨1, _⟩ => ⟨S16x3456, .fp8e4m3⟩
  | .local _ .vmem, ⟨2, _⟩ => ⟨S16x5120, .fp8e4m3⟩
  | .local _ .vmem, ⟨3, _⟩ => ⟨S1x16, .f32⟩
  | .local _ .vmem, ⟨4, _⟩ => ⟨S2x8x5120, .bf16⟩
  | .local _ .vmem, ⟨5, _⟩ => ⟨S5120x6912, .fp8e4m3⟩
  | .local _ .vmem, ⟨6, _⟩ => ⟨S54x128, .f32⟩
  | .local _ .vmem, ⟨7, _⟩ => ⟨S32x5120, .fp8e4m3⟩
  | .local _ .vmem, ⟨8, _⟩ => ⟨S16x6912, .f32⟩
  | .local _ .vmem, ⟨9, _⟩ => ⟨S16x3456, .f32⟩
  | _, _ => ⟨S16x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3456 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x1x5120 : Shape := ⟨3, ![16, 1, 5120]⟩
abbrev S5120x6912 : Shape := ⟨2, ![5120, 6912]⟩
abbrev S6912 : Shape := ⟨1, ![6912]⟩
abbrev S16x5120 : Shape := ⟨2, ![16, 5120]⟩
abbrev S1x6912 : Shape := ⟨2, ![1, 6912]⟩
abbrev S1x16 : Shape := ⟨2, ![1, 16]⟩
abbrev S16x3456 : Shape := ⟨2, ![16, 3456]⟩
abbrev S16 : Shape := ⟨1, ![16]⟩
abbrev S16x1 : Shape := ⟨2, ![16, 1]⟩
abbrev S16x6912 : Shape := ⟨2, ![16, 6912]⟩

abbrev nBuf : Space → Nat
  | .hbm => 9
  | .vmem => 7
  | .smem => 0
  | _ => 0

abbrev bufTy : (tb : Table) → Fin (tcTables nBuf tb) → BufTy
  | .hbm, ⟨0, _⟩ => ⟨S16x1x5120, .bf16⟩
  | .hbm, ⟨1, _⟩ => ⟨S5120x6912, .fp8e4m3⟩
  | .hbm, ⟨2, _⟩ => ⟨S6912, .f32⟩
  | .hbm, ⟨3, _⟩ => ⟨S16x5120, .bf16⟩
  | .hbm, ⟨4, _⟩ => ⟨S1x6912, .f32⟩
  | .hbm, ⟨5, _⟩ => ⟨S1x16, .f32⟩
  | .hbm, ⟨6, _⟩ => ⟨S16x3456, .fp8e4m3⟩
  | .hbm, ⟨7, _⟩ => ⟨S16x5120, .fp8e4m3⟩
  | .hbm, ⟨8, _⟩ => ⟨S1x16, .f32⟩
  | .local _ .vmem, ⟨0, _⟩ => ⟨S16x5120, .bf16⟩
  | .local _ .vmem, ⟨1, _⟩ => ⟨S5120x6912, .fp8e4m3⟩
  | .local _ .vmem, ⟨2, _⟩ => ⟨S1x6912, .f32⟩
  | .local _ .vmem, ⟨3, _⟩ => ⟨S1x16, .f32⟩
  | .local _ .vmem, ⟨4, _⟩ => ⟨S16x3456, .fp8e4m3⟩
  | .local _ .vmem, ⟨5, _⟩ => ⟨S16x5120, .fp8e4m3⟩
  | .local _ .vmem, ⟨6, _⟩ => ⟨S1x16, .f32⟩
  | _, _ => ⟨S16x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/- The power-of-two scale of one row, as a scalar function of the row's largest magnitude: the kernel finds the exponent
   by counting the powers of two that the magnitude reaches and writes it into the exponent field of a float; the
   reference takes the floor of a base-2 logarithm and calls `exp2`. This module proves the two equal. -/
module

public import proofs.«01_k».proof.ReferenceIdeal
public import Idealize.ShloMosaic.Lib.Pointwise

@[expose] public section

noncomputable section

namespace Cert.Values

open Idealize.ShloMosaic

/-- The kernel's count: how many of the powers of two from `2^-126` to `2^125` are at most `r`, as a 32-bit word. -/
def countWord (r : EReal) : BitVec 32 :=
  Finset.fold IntOp.addi 0#32 (fun x : Fin 252 => BitVec.setWidth 32 (BitVec.ofBool (decide
    (FloatOps.ofBits (F := Ideal) .f32
      (IntOp.shli .vector (IntOp.addi (BitVec.ofNat 32 ↑x) 1#32) 23#32) ≤ r)))) Finset.univ

/-- The kernel's exponent word of a row whose largest magnitude is `a`. -/
def expWord (a : EReal) : BitVec 32 :=
  if a = 0 then 0#32 else
    Scalar.select (IntOp.andi (IntOp.cmpi .sgt (countWord (a * FloatOps.ofBits (F := Ideal) .f32 991054117#32)) 0#32)
      (BitVec.ofBool (decide (a * FloatOps.ofBits (F := Ideal) .f32 991054117#32
        < FloatOps.ofBits (F := Ideal) .f32 2139095040#32))))
      (IntOp.subi (countWord (a * FloatOps.ofBits (F := Ideal) .f32 991054117#32)) 126#32) 0#32

/-- The float whose exponent field is `e + 127` and whose fraction is zero. -/
def ldexpOne (e : BitVec 32) : EReal :=
  FloatOps.ofBits (F := Ideal) .f32 (IntOp.shli .vector (IntOp.addi e 127#32) 23#32)

/-- The reference's exponent of a row whose largest magnitude is `a`. -/
def expReal (a : EReal) : EReal :=
  if a = 0 then 0 else
    Scalar.select (IntOp.ori
      (BitVec.ofBool (decide (a * FloatOps.ofBits (F := Ideal) .f32 991054117#32
        < FloatOps.ofBits (F := Ideal) .f32 8388608#32)))
      (BitVec.ofBool (decide (a * FloatOps.ofBits (F := Ideal) .f32 991054117#32
        = FloatOps.ofBits (F := Ideal) .f32 2139095040#32)))) 0
      (min (FloatOps.ofBits (F := Ideal) .f32 1123811328#32) (max (FloatOps.ofBits (F := Ideal) .f32 3271163904#32)
        (Ideal.liftRound Int.floor (Ideal.div (Ideal.log (a * FloatOps.ofBits (F := Ideal) .f32 991054117#32))
          (Named.named (F := Ideal) (φ := .f32) Cert.ReferenceIdeal.κ "ln2" 1060205080#32)) + 1)))

/-- The exponent field of the word holding `n` at bit 23 is `n`. -/
theorem field_toNat : ∀ n : Fin 255, ((BitVec.ofNat 32 n.val <<< 23).extractLsb' 23 8).toNat = n.val := by
  decide +kernel

/-- Its fraction field is zero. -/
theorem fraction_toNat : ∀ n : Fin 255, ((BitVec.ofNat 32 n.val <<< 23).extractLsb' 0 23).toNat = 0 := by
  decide +kernel

/-- Its sign bit is clear. -/
theorem sign_bit : ∀ n : Fin 255, ((BitVec.ofNat 32 n.val <<< 23).extractLsb' 31 1 == 1#1) = false := by
  decide +kernel

/-- The single-precision pattern with exponent field `n` and everything else zero is the number `2^(n-127)`. -/
theorem pow2_bits (n : Nat) (h1 : 1 ≤ n) (h2 : n < 255) :
    Ideal.ofBits .f32 (BitVec.ofNat 32 n <<< 23) = (((2 : ℝ) ^ ((n : ℤ) - 127) : ℝ) : EReal) := by
  have e1 := field_toNat ⟨n, h2⟩
  have e2 := fraction_toNat ⟨n, h2⟩
  have e3 := sign_bit ⟨n, h2⟩
  simp only at e1 e2 e3
  have hexp : (n : ℤ) - 127 = 23 + ((n : ℤ) - 127 - 23) := by ring
  simp only [Ideal.ofBits, Ideal.ieee, Nat.reduceAdd, e1, e2, e3]
  rw [if_neg (by omega), if_neg (by omega), hexp, zpow_add₀ (by norm_num : (2 : ℝ) ≠ 0)]
  norm_num

/-- The pattern of the smallest normal number, `2^-126`. -/
theorem bits_min : Ideal.ofBits .f32 8388608#32 = (((2 : ℝ) ^ (-126 : ℤ) : ℝ) : EReal) := by
  have := pow2_bits 1 (by omega) (by omega)
  simpa using this

/-- The pattern of infinity. -/
theorem bits_top : Ideal.ofBits .f32 2139095040#32 = ⊤ := by
  simp [Ideal.ofBits, Ideal.ieee]

/-- The pattern of 126. -/
theorem bits_126 : Ideal.ofBits .f32 1123811328#32 = ((126 : ℝ) : EReal) := by
  simp [Ideal.ofBits, Ideal.ieee, -EReal.coe_mul]; norm_num

/-- The pattern of -125. -/
theorem bits_neg125 : Ideal.ofBits .f32 3271163904#32 = ((-125 : ℝ) : EReal) := by
  simp [Ideal.ofBits, Ideal.ieee, -EReal.coe_mul, -EReal.coe_neg]; norm_num

/-- A vector shift by 23 is the plain shift. -/
theorem shli_23 (y : BitVec 32) : IntOp.shli .vector y 23#32 = y <<< 23 := by
  have h : IntOp.shli .vector y 23#32 = y <<< 23#32 := if_pos (by decide)
  rw [h, BitVec.shiftLeft_eq']
  rfl

/-- The integer part of the base-2 logarithm. -/
def ilog (r : ℝ) : ℤ := ⌊Real.log r / Real.log 2⌋

/-- A positive real has reached `2^z` exactly if `z` is at most its integer logarithm. -/
theorem zpow_le_iff_le_ilog {r : ℝ} (hr : 0 < r) (z : ℤ) : (2 : ℝ) ^ z ≤ r ↔ z ≤ ilog r := by
  have h2 : 0 < Real.log 2 := Real.log_pos (by norm_num)
  rw [ilog, Int.le_floor, le_div_iff₀ h2, ← Real.log_zpow, Real.log_le_log_iff (by positivity) hr]

/-- The word the kernel's counting compares against, written as a shift of a number. -/
theorem lane_bits (x : Fin 252) :
    FloatOps.ofBits (F := Ideal) .f32 (IntOp.shli .vector (IntOp.addi (BitVec.ofNat 32 ↑x) 1#32) 23#32)
      = (((2 : ℝ) ^ ((x : ℤ) - 126) : ℝ) : EReal) := by
  have hx := x.isLt
  have e : IntOp.shli .vector (IntOp.addi (BitVec.ofNat 32 ↑x) 1#32) 23#32 = BitVec.ofNat 32 (x.val + 1) <<< 23 := by
    rw [shli_23, show IntOp.addi (BitVec.ofNat 32 x.val) 1#32 = BitVec.ofNat 32 (x.val + 1) from
      (BitVec.ofNat_add _ _).symm]
  rw [e]
  show Ideal.ofBits .f32 _ = _
  rw [pow2_bits _ (by omega) (by omega)]
  congr 2
  push_cast
  ring

/-- Adding up the words 0 and 1 counts the ones. -/
theorem fold_count {n : Nat} (p : Fin n → Bool) (s : Finset (Fin n)) :
    Finset.fold IntOp.addi 0#32 (fun x => BitVec.setWidth 32 (BitVec.ofBool (p x))) s
      = BitVec.ofNat 32 (s.filter (fun x => p x = true)).card := by
  classical
  induction s using Finset.induction_on with
  | empty => rfl
  | insert a s ha ih =>
    rw [Finset.fold_insert ha, ih, Finset.filter_insert]
    cases h : p a
    · simp [IntOp.addi]
    · rw [if_pos rfl, Finset.card_insert_of_notMem (by simp [ha])]
      simp only [IntOp.addi, BitVec.ofBool_true]
      rw [Nat.add_comm, BitVec.ofNat_add]
      rfl

/-- What the kernel counts, as a word: how many of the powers `2^-126 .. 2^125` the value has reached. -/
theorem countWord_eq (r : EReal) : countWord r
    = BitVec.ofNat 32 (Finset.univ.filter (fun x : Fin 252 => (((2 : ℝ) ^ ((x : ℤ) - 126) : ℝ) : EReal) ≤ r)).card := by
  unfold countWord
  rw [fold_count]
  congr 2
  ext x
  simp only [Finset.mem_filter, Finset.mem_univ, true_and, decide_eq_true_eq]
  rw [lane_bits]

/-- Below `2^-126` the count is zero. -/
theorem countWord_small {r : EReal} (h : r < (((2 : ℝ) ^ (-126 : ℤ) : ℝ) : EReal)) : countWord r = 0#32 := by
  rw [countWord_eq, Finset.card_eq_zero.mpr]
  rw [Finset.filter_eq_empty_iff]
  intro x _ hx
  refine absurd (lt_of_le_of_lt hx h) (not_lt.mpr ?_)
  rw [EReal.coe_le_coe_iff]
  exact zpow_le_zpow_right₀ (by norm_num) (by omega)

/-- From `2^-126` on, the count is the floor of the base-2 logarithm plus 127, at most 252. -/
theorem countWord_real {r : ℝ} (h : (2 : ℝ) ^ (-126 : ℤ) ≤ r) :
    countWord (r : EReal) = BitVec.ofNat 32 (min (ilog r + 127).toNat 252) := by
  have hr : 0 < r := lt_of_lt_of_le (by positivity) h
  have hl : -126 ≤ ilog r :=
    (zpow_le_iff_le_ilog hr _).mp h
  rw [countWord_eq]
  congr 1
  have : (Finset.univ.filter (fun x : Fin 252 => (((2 : ℝ) ^ ((x : ℤ) - 126) : ℝ) : EReal) ≤ (r : EReal)))
      = Finset.univ.filter (fun x : Fin 252 => x.val < (ilog r + 127).toNat) := by
    ext x
    simp only [Finset.mem_filter, Finset.mem_univ, true_and]
    rw [EReal.coe_le_coe_iff]
    rw [zpow_le_iff_le_ilog hr]
    omega
  rw [this, Fin.card_filter_val_lt]
  omega

/-- The named constant is the natural logarithm of two. -/
theorem ln2_named : Named.named (F := Ideal) (φ := .f32) Cert.ReferenceIdeal.κ "ln2" 1060205080#32
    = ((Real.log 2 : ℝ) : EReal) := rfl

/-- The reference's logarithm on a positive real: the floor is the integer base-2 logarithm. -/
theorem floor_log {r : ℝ} (hr : 0 < r) :
    Ideal.liftRound Int.floor (Ideal.div (Ideal.log (r : EReal)) ((Real.log 2 : ℝ) : EReal))
      = ((ilog r : ℝ) : EReal) := by
  have h2 : Real.log 2 ≠ 0 := (Real.log_pos (by norm_num)).ne'
  have h2' : ((Real.log 2 : ℝ) : EReal) ≠ 0 := by exact_mod_cast h2
  have e : Ideal.div (Ideal.log (r : EReal)) ((Real.log 2 : ℝ) : EReal) = ((Real.log r / Real.log 2 : ℝ) : EReal) := by
    rw [show Ideal.log (r : EReal) = ((Real.log r : ℝ) : EReal) from if_neg (not_le.mpr hr)]
    rw [Ideal.div, if_neg h2', ← EReal.coe_inv, ← EReal.coe_mul]
    rfl
  rw [e]
  rfl

/-- The kernel's exponent word and the reference's exponent are the same integer, between -126 and 126. -/
theorem exponents_agree (a : EReal) :
    ∃ e : ℤ, -126 ≤ e ∧ e ≤ 126 ∧ expWord a = BitVec.ofInt 32 e ∧ expReal a = ((e : ℝ) : EReal) := by
  by_cases ha : a = 0
  · exact ⟨0, by omega, by omega, by simp [expWord, ha], by simp [expReal, ha]⟩
  unfold expWord expReal
  rw [if_neg ha, if_neg ha]
  generalize a * FloatOps.ofBits (F := Ideal) .f32 991054117#32 = r
  have b1 : FloatOps.ofBits (F := Ideal) .f32 2139095040#32 = ⊤ := bits_top
  have b2 : FloatOps.ofBits (F := Ideal) .f32 8388608#32 = (((2 : ℝ) ^ (-126 : ℤ) : ℝ) : EReal) := bits_min
  have b3 : FloatOps.ofBits (F := Ideal) .f32 1123811328#32 = ((126 : ℝ) : EReal) := bits_126
  have b4 : FloatOps.ofBits (F := Ideal) .f32 3271163904#32 = ((-125 : ℝ) : EReal) := bits_neg125
  rw [b1, b2, b3, b4, ln2_named]
  by_cases hs : r < (((2 : ℝ) ^ (-126 : ℤ) : ℝ) : EReal)
  · refine ⟨0, by omega, by omega, ?_, ?_⟩
    · rw [countWord_small hs]
      simp [Scalar.select, IntOp.andi, IntOp.cmpi]
    · rw [decide_eq_true hs]
      by_cases ht : r = ⊤ <;> simp [Scalar.select, IntOp.ori, ht]
  by_cases ht : r = ⊤
  · refine ⟨0, by omega, by omega, ?_, ?_⟩
    · subst ht
      simp [Scalar.select, IntOp.andi]
    · subst ht
      simp [Scalar.select, IntOp.ori]
  · have hb : r ≠ ⊥ := by
      rintro rfl
      exact hs (EReal.bot_lt_coe _)
    lift r to ℝ using ⟨ht, hb⟩
    rw [not_lt, EReal.coe_le_coe_iff] at hs
    have hr : 0 < r := lt_of_lt_of_le (by positivity) hs
    have hl : -126 ≤ ilog r :=
      (zpow_le_iff_le_ilog hr _).mp hs
    refine ⟨min (ilog r + 1) 126, by omega, by omega, ?_, ?_⟩
    · rw [countWord_real hs]
      obtain ⟨n, hn⟩ : ∃ n : ℕ, ilog r = (n : ℤ) - 126 := ⟨(ilog r + 126).toNat, by omega⟩
      rw [hn]
      have e0 : min ((n : ℤ) - 126 + 127).toNat 252 = min (n + 1) 252 := by omega
      have e1 : min ((n : ℤ) - 126 + 1) 126 = ((min (n + 1) 252 : ℕ) : ℤ) - 126 := by omega
      rw [e0, e1]
      have hk1 : 1 ≤ min (n + 1) 252 := by omega
      have hk2 : min (n + 1) 252 ≤ 252 := by omega
      generalize min (n + 1) 252 = k at hk1 hk2 ⊢
      have ht : decide ((r : EReal) < ⊤) = true := decide_eq_true (EReal.coe_lt_top r)
      rw [ht]
      clear * - hk1 hk2
      interval_cases k <;> decide +kernel
    · have h1 : decide ((r : EReal) < (((2 : ℝ) ^ (-126 : ℤ) : ℝ) : EReal)) = false :=
        decide_eq_false (by rw [not_lt, EReal.coe_le_coe_iff]; exact hs)
      have h2 : decide ((r : EReal) = ⊤) = false := decide_eq_false (EReal.coe_ne_top r)
      rw [h1, h2, floor_log hr]
      show (if (0#1 ||| 0#1 : BitVec 1) = 1 then (0 : EReal) else _) = _
      rw [if_neg (by decide)]
      rw [← EReal.coe_one, ← EReal.coe_add]
      rw [← EReal.coe_strictMono.monotone.map_max, ← EReal.coe_strictMono.monotone.map_min]
      congr 1
      have : ((-125 : ℝ)) ≤ (ilog r : ℝ) + 1 := by
        have : ((-126 : ℤ) : ℝ) ≤ (ilog r : ℝ) := by exact_mod_cast hl
        push_cast at this
        linarith
      rw [max_eq_right this, min_comm]
      push_cast
      rfl

/-- Writing an exponent between -126 and 127 into the exponent field gives the power of two. -/
theorem ldexpOne_ofInt (e : ℤ) (h1 : -126 ≤ e) (h2 : e ≤ 127) :
    ldexpOne (BitVec.ofInt 32 e) = Ideal.exp2 ((e : ℝ) : EReal) := by
  obtain ⟨n, hn⟩ : ∃ n : ℕ, e = (n : ℤ) - 127 := ⟨(e + 127).toNat, by omega⟩
  subst hn
  have e1 : IntOp.shli .vector (IntOp.addi (BitVec.ofInt 32 ((n : ℤ) - 127)) 127#32) 23#32 = BitVec.ofNat 32 n <<< 23 := by
    have : IntOp.addi (BitVec.ofInt 32 ((n : ℤ) - 127)) 127#32 = BitVec.ofNat 32 n := by
      show BitVec.ofInt 32 ((n : ℤ) - 127) + BitVec.ofInt 32 127 = _
      rw [← BitVec.ofInt_add, sub_add_cancel, BitVec.ofInt_natCast]
    rw [shli_23, this]
  unfold ldexpOne
  rw [e1]
  show Ideal.ofBits .f32 _ = _
  rw [pow2_bits n (by omega) (by omega)]
  show _ = ((Real.rpow 2 (((n : ℤ) - 127 : ℤ) : ℝ) : ℝ) : EReal)
  congr 1
  exact (Real.rpow_intCast 2 _).symm

/-- The row scale: the kernel's and the reference's are one number. -/
theorem scale_agree (a : EReal) : ldexpOne (expWord a) = Ideal.exp2 (expReal a) := by
  obtain ⟨e, h1, h2, hw, hr⟩ := exponents_agree a
  rw [hw, hr, ldexpOne_ofInt e h1 (by omega)]

/-- The row's inverse scale: the kernel's and the reference's are one number. -/
theorem inverse_agree (a : EReal) :
    ldexpOne (IntOp.subi 0#32 (expWord a)) = Ideal.exp2 (0 - expReal a) := by
  obtain ⟨e, h1, h2, hw, hr⟩ := exponents_agree a
  have e0 : IntOp.subi 0#32 (BitVec.ofInt 32 e) = BitVec.ofInt 32 (-e) := by
    simp only [IntOp.subi, BitVec.zero_sub, BitVec.ofInt_neg]
  have e1 : (0 : EReal) - ((e : ℝ) : EReal) = (((-e : ℤ) : ℝ) : EReal) := by
    rw [zero_sub]
    push_cast
    rfl
  rw [hw, hr, e0, e1, ldexpOne_ofInt (-e) (by omega) (by omega)]

end Cert.Values

end
-- ==== Proof.Model.lean ====
/- What the four results are, as plain functions of the three arguments: the quantised activations and their row scales,
   the product, the gated value, its quantised form and its row scales. Rows are numbered 0 to 15; every other index is a
   natural number, and a function is only read inside its range. -/
module

public import proofs.«01_k».proof.Proof.Scale

@[expose] public section

noncomputable section

namespace Cert.Values

open Idealize.ShloMosaic

/-- The largest magnitude among `n` values (the fold starts at the bottom element). -/
def amax (n : Nat) (f : Nat → EReal) : EReal :=
  Finset.fold max (FloatOps.ofBits (F := Ideal) .f32 4286578688#32)
    (fun x : Fin n => FloatOps.absf (F := Ideal) (φ := .f32) (f x.val)) Finset.univ

/-- The scale of a row with largest magnitude `a`. -/
def upScale (a : EReal) : EReal := ldexpOne (expWord a)
/-- The inverse of the scale of a row with largest magnitude `a`. -/
def dnScale (a : EReal) : EReal := ldexpOne (IntOp.subi 0#32 (expWord a))

/-- Clamping to the largest 8-bit float, 448. -/
def clip (x : EReal) : EReal :=
  min (FloatOps.ofBits (F := Ideal) .f32 1138753536#32) (max (FloatOps.ofBits (F := Ideal) .f32 3286237184#32) x)

variable (X : Fin 16 → Nat → EReal) (W : Nat → Nat → EReal) (s : Nat → EReal)

/-- The quantised activations. -/
def code (i : Fin 16) (k : Nat) : EReal := clip (X i k * dnScale (amax 5120 (X i)))

/-- The first `d` terms of an entry of the product of the quantised activations and the weights. -/
def part (i : Fin 16) (j d : Nat) : EReal := ∑ k ∈ Finset.range d, code X i k * W k j

/-- The scaled product. -/
def lin (i : Fin 16) (j : Nat) : EReal := part X W i j 5120 * upScale (amax 5120 (X i)) * s j

/-- The gated value of a gate and an up entry. -/
def gated (g u : EReal) : EReal := g * Ideal.div 1 (1 + Ideal.exp (0 - g)) * u

/-- The gated value of one row and one of the 3456 columns. -/
def hid (i : Fin 16) (j : Nat) : EReal := gated (lin X W s i j) (lin X W s i (3456 + j))

/-- The quantised gated value. -/
def hcode (i : Fin 16) (j : Nat) : EReal := clip (hid X W s i j * dnScale (amax 3456 (hid X W s i)))

/-- Adding the next `w` terms of an entry of the product. -/
theorem part_add (i : Fin 16) (j d w : Nat) :
    part X W i j d + ∑ x : Fin w, code X i (d + x.val) * W (d + x.val) j = part X W i j (d + w) := by
  unfold part
  rw [Finset.sum_range_add, Finset.sum_range (fun x => code X i (d + x) * W (d + x) j)]

/-- The first `w` terms. -/
theorem part_zero (i : Fin 16) (j w : Nat) :
    ∑ x : Fin w, code X i x.val * W x.val j = part X W i j w := by
  unfold part
  rw [Finset.sum_range]

/-- A magnitude is never negative. -/
theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- The pattern a maximum starts from is the bottom element. -/
theorem bits_bot : FloatOps.ofBits (F := Ideal) .f32 4286578688#32 = ⊥ := by
  show Ideal.ofBits .f32 _ = _
  simp [Ideal.ofBits, Ideal.ieee]

/-- The running maximum of the magnitudes of lane `l` over the first `t` tiles of 128 lanes. -/
def lanemax (f : Nat → EReal) (l : Nat) : Nat → EReal
  | 0 => 0
  | t + 1 => max (lanemax f l t) (FloatOps.absf (F := Ideal) (φ := .f32) (f (128 * t + l)))

/-- A nonnegative bound on the magnitudes of a lane bounds their running maximum. -/
theorem lanemax_le (f : Nat → EReal) (l : Nat) (c : EReal) (h0 : 0 ≤ c) : ∀ t : Nat,
    (∀ u < t, FloatOps.absf (F := Ideal) (φ := .f32) (f (128 * u + l)) ≤ c) → lanemax f l t ≤ c
  | 0, _ => h0
  | t + 1, h => max_le (lanemax_le f l c h0 t fun u hu => h u (by omega)) (h t (by omega))

/-- The running maximum is at least each magnitude it ran over. -/
theorem le_lanemax (f : Nat → EReal) (l : Nat) : ∀ t u : Nat, u < t →
    FloatOps.absf (F := Ideal) (φ := .f32) (f (128 * u + l)) ≤ lanemax f l t
  | 0, _, h => absurd h (by omega)
  | t + 1, u, h => by
    rcases Nat.lt_succ_iff_lt_or_eq.mp h with h | h
    · exact le_max_of_le_left (le_lanemax f l t u h)
    · subst h
      exact le_max_right _ _

/-- Taking the maximum lane by lane over 27 tiles, from zero, and then over the 128 lanes gives the largest magnitude of
    the row of 3456. -/
theorem amax_lanes (f : Nat → EReal) :
    Finset.fold max (FloatOps.ofBits (F := Ideal) .f32 4286578688#32)
      (fun l : Fin 128 => lanemax f l.val 27) Finset.univ = amax 3456 f := by
  unfold amax
  rw [bits_bot]
  apply le_antisymm
  · rw [Finset.fold_max_le]
    refine ⟨bot_le, fun l _ => ?_⟩
    have hmem : ∀ j : Nat, j < 3456 → FloatOps.absf (F := Ideal) (φ := .f32) (f j)
        ≤ Finset.fold max ⊥ (fun x : Fin 3456 => FloatOps.absf (F := Ideal) (φ := .f32) (f x.val)) Finset.univ := by
      intro j hj
      rw [Finset.le_fold_max]
      exact Or.inr ⟨⟨j, hj⟩, Finset.mem_univ _, le_refl _⟩
    refine lanemax_le f l.val _ ((absf_nonneg _).trans (hmem 0 (by omega))) 27 fun u hu => hmem _ ?_
    have := l.isLt
    omega
  · rw [Finset.fold_max_le]
    refine ⟨bot_le, fun x _ => ?_⟩
    rw [Finset.le_fold_max]
    refine Or.inr ⟨⟨x.val % 128, Nat.mod_lt _ (by omega)⟩, Finset.mem_univ _, ?_⟩
    have h := le_lanemax f (x.val % 128) 27 (x.val / 128) (by have := x.isLt; omega)
    rwa [Nat.div_add_mod] at h

end Cert.Values

end
-- ==== Proof.Quant.lean ====
/- The kernel's quantisation of the activations, read at an index: row scale, codes, and the padded copy of the codes that
   the matrix unit multiplies. -/
module

public import proofs.«01_k».proof.Proof.Gen.KernelIdeal.Skeleton
public import proofs.«01_k».proof.Proof.Model

@[expose] public section

noncomputable section

namespace Cert.Values

open Idealize.ShloMosaic Cert.KernelIdeal Cert.KernelIdeal.Gen

set_option maxRecDepth 16384

variable (X : Fin 16 → Nat → EReal) (v : FVec Ideal S16x5120 .f32) (hv : ∀ (i : Fin 16) (k : Fin 5120), v (ix2 i k) = X i k.val)
include hv

/-- The largest magnitude of a row of activations. -/
theorem amax_row (i : Fin 16) : Finset.fold max (FloatOps.ofBits (F := Ideal) .f32 4286578688#32)
    (fun x : Fin 5120 => FloatOps.absf (F := Ideal) (φ := .f32) (v (ix2 i x))) Finset.univ = amax 5120 (X i) := by
  unfold amax
  simp only [hv]

/-- The row scale as a column. -/
theorem scale_col (i : Fin 16) : k0_pay5 v (ix2 i 0) = upScale (amax 5120 (X i)) := by
  rw [← amax_row X v hv i]
  pointwise [k0_pay5, k0_pay4]
  rfl

/-- The activations times the inverse row scale. -/
theorem scaled (i : Fin 16) (k : Fin 5120) : k0_pay6 v (ix2 i k) = X i k.val * dnScale (amax 5120 (X i)) := by
  rw [← amax_row X v hv i, ← hv i k]
  pointwise [k0_pay6, k0_pay4]
  rfl

/-- The codes. -/
theorem codes (i : Fin 16) (k : Fin 5120) :
    k0_pay8 (k0_pay6 v) (FloatOps.ofBits (F := Ideal) .f32 3286237184#32) (ix2 i k) = code X i k.val := by
  have h := scaled X v hv i k
  pointwise [k0_pay8, k0_pay7]
  rw [h]
  rfl

/-- The first sixteen rows of the padded codes are the codes. -/
theorem padded (i : Fin 32) (hi : i.val < 16) (k : Fin 5120) :
    k0_pay10 (k0_pay6 v) (FloatOps.ofBits (F := Ideal) .f32 3286237184#32) (ix2 i k) = code X ⟨i.val, hi⟩ k.val := by
  have h := scaled X v hv ⟨i.val, hi⟩ k
  pointwise [k0_pay10, k0_pay7]
  rw [dif_pos hi, h]
  rfl

omit hv in
/-- A column laid out as a row: adding up the diagonal of its broadcast picks each entry. -/
theorem diagonal (f : Fin 16 → EReal) (i : Fin 16) :
    (∑ x : Fin 16, Scalar.select (IntOp.cmpi .eq (BitVec.ofNat 32 x.val) (BitVec.ofNat 32 i.val)) (f x) (0 : EReal)) = f i := by
  rw [Finset.sum_eq_single i]
  · simp [Scalar.select, IntOp.cmpi]
  · intro b _ hb
    have : (BitVec.ofNat 32 b.val == BitVec.ofNat 32 i.val) = false := by
      rw [beq_eq_false_iff_ne]
      intro h
      have h' := congrArg BitVec.toNat h
      simp only [BitVec.toNat_ofNat] at h'
      exact hb (Fin.ext (by omega))
    simp [Scalar.select, IntOp.cmpi, this]
  · intro h
    exact absurd (Finset.mem_univ i) h

omit hv in
theorem row_of_col (w : FVec Ideal S16x1 .f32) (i : Fin 16) : k0_pay9 w (ix2 0 i) = w (ix2 i 0) := by
  rw [← diagonal (fun x => w (ix2 x 0)) i]
  pointwise [k0_pay9]

omit hv in
theorem row_of_col' (w : FVec Ideal S16x1 .f32) (i : Fin 16) : k0_pay2 w (ix2 0 i) = w (ix2 i 0) := by
  rw [← diagonal (fun x => w (ix2 x 0)) i]
  pointwise [k0_pay2]

end Cert.Values

end
-- ==== Proof.Mem.lean ====
/- Reading two-dimensional buffers that a list of rectangular stores filled: a load through a unit-stride rectangle reads
   the stores' contents at the shifted index, and the contents are found store by store, the last one first. -/
module

public import Idealize.ShloMosaic.Lib.Pipeline.Value
public import Idealize.ShloMosaic.Lib.Pointwise

@[expose] public section

noncomputable section

namespace Cert.Values

open Idealize.ShloMosaic

/-- The placement of an index of a unit-stride rectangle in a two-dimensional shape. -/
theorem unit_idx2 {A B m n a b : Nat} (hin : ∀ x, (![a, b] : Fin 2 → Nat) x + (![m, n] : Fin 2 → Nat) x ≤ (![A, B] : Fin 2 → Nat) x)
    (i : Fin m) (j : Fin n) (h1 : a + i.val < A) (h2 : b + j.val < B) :
    (Rect.unit (s := ⟨2, ![A, B]⟩) ![a, b] ![m, n] hin).idx (ix2 i j) = ix2 ⟨a + i.val, h1⟩ ⟨b + j.val, h2⟩ := by
  funext x
  refine Fin.cases ?_ (fun y => ?_) x
  · apply Fin.ext
    show a + 1 * i.val = a + i.val
    omega
  · refine Fin.cases ?_ (fun z => z.elim0) y
    apply Fin.ext
    show b + 1 * j.val = b + j.val
    omega

/-- A load through a rectangle reads what the stores left at the shifted index. -/
theorem readCov2 {sig : RefSig} {κ : Kind} {sp : Space} {e : EltTy} {A B m n a b : Nat}
    (v : View sig κ sp ⟨2, ![A, B]⟩ e) (L : List (View.Piece (Elt Ideal) ⟨2, ![A, B]⟩ e))
    (hin : ∀ x, (![a, b] : Fin 2 → Nat) x + (![m, n] : Fin 2 → Nat) x ≤ (![A, B] : Fin 2 → Nat) x)
    (i : Fin m) (j : Fin n) (h1 : a + i.val < A) (h2 : b + j.val < B) :
    v.readCov L (Rect.unit (s := ⟨2, ![A, B]⟩) ![a, b] ![m, n] hin).toLoadRect (ix2 i j)
      = View.canon L (ix2 ⟨a + i.val, h1⟩ ⟨b + j.val, h2⟩) := by
  rw [View.readCov_eq_canon', ← unit_idx2 hin i j h1 h2]

/-- The contents after one more store: under the store its payload, elsewhere what was there before. -/
theorem canon_cons2 {e : EltTy} {A B m n a b : Nat}
    (hin : ∀ x, (![a, b] : Fin 2 → Nat) x + (![m, n] : Fin 2 → Nat) x ≤ (![A, B] : Fin 2 → Nat) x)
    (P : (⟨2, ![m, n]⟩ : Shape).Idx → Elt Ideal e) (L : List (View.Piece (Elt Ideal) ⟨2, ![A, B]⟩ e))
    (i : Fin A) (j : Fin B) (v : Elt Ideal e)
    (hP : ∀ (i' : Fin m) (j' : Fin n), i.val = a + i'.val → j.val = b + j'.val → P (ix2 i' j') = v)
    (hL : ¬ (a ≤ i.val ∧ i.val < a + m ∧ b ≤ j.val ∧ j.val < b + n) → View.canon L (ix2 i j) = v) :
    View.canon ((⟨Rect.unit (s := ⟨2, ![A, B]⟩) ![a, b] ![m, n] hin, P⟩ : View.Piece (Elt Ideal) ⟨2, ![A, B]⟩ e) :: L)
      (ix2 i j) = v := by
  by_cases h : a ≤ i.val ∧ i.val < a + m ∧ b ≤ j.val ∧ j.val < b + n
  · obtain ⟨h1, h2, h3, h4⟩ := h
    have e1 := hP ⟨i.val - a, by omega⟩ ⟨j.val - b, by omega⟩ (by simp; omega) (by simp; omega)
    rw [← e1]
    have e2 : (ix2 i j : (⟨2, ![A, B]⟩ : Shape).Idx)
        = (Rect.unit (s := ⟨2, ![A, B]⟩) ![a, b] ![m, n] hin).emb
            (ix2 (⟨i.val - a, by omega⟩ : Fin m) (⟨j.val - b, by omega⟩ : Fin n)) := by
      refine Eq.trans ?_ (unit_idx2 hin ⟨i.val - a, by omega⟩ ⟨j.val - b, by omega⟩
        (by simp; omega) (by simp; omega)).symm
      congr 1 <;> apply Fin.ext <;> simp <;> omega
    rw [e2]
    exact View.canon_cons_emb _ _ _ _
  · rw [View.canon_cons_of_not_mem]
    · exact hL h
    · intro hm
      have hm' := (Rect.mem_set_unit (s := ⟨2, ![A, B]⟩) (inb := hin)).mp hm
      have h0 := hm' 0
      have h1 := hm' 1
      exact h ⟨h0.1, h0.2, h1.1, h1.2⟩

end Cert.Values

end
-- ==== Proof.Reads.lean ====
/- What the kernel's loads read: the activations, the weights and the column scales as its copies brought them in, and the
   padded codes it stored. -/
module

public import proofs.«01_k».proof.Proof.Gen.KernelIdeal.Value
public import proofs.«01_k».proof.Proof.Quant
public import proofs.«01_k».proof.Proof.Mem

@[expose] public section

noncomputable section

namespace Cert.Values

open Idealize.ShloMosaic Cert.KernelIdeal Cert.KernelIdeal.Gen
open Cert.KernelIdeal.Gen.kernelRun0_A.sl

set_option maxRecDepth 16384

variable (c : Dev nD) (arg7 : Memref sig .tc .vmem S2x8x5120 .bf16) (arg8 : Memref sig .tc .vmem S5120x6912 .fp8e4m3)
  (arg9 : Memref sig .tc .vmem S54x128 .f32) (arg10 : Memref sig .tc .vmem S32x5120 .fp8e4m3)
  (fh0 : HbBuf0 (F := Ideal) c hbM0_0) (fh1 : HbBuf0 (F := Ideal) c hbM0_1) (fh2 : HbBuf0 (F := Ideal) c hbM0_2)

/-- The activations the kernel is given, as a function of row and position. -/
def xOf (i : Fin 16) (k : Nat) : EReal :=
  if h : k < 5120 then fh0 (ix3 ⟨i.val / 8, by omega⟩ ⟨i.val % 8, by omega⟩ ⟨k, h⟩) else 0

/-- The weights. -/
def wOf (k j : Nat) : EReal := if h : k < 5120 ∧ j < 6912 then fh1 (ix2 ⟨k, h.1⟩ ⟨j, h.2⟩) else 0

/-- The column scales, which the kernel is given as 54 rows of 128. -/
def sOf (j : Nat) : EReal := if h : j < 6912 then fh2 (ix2 ⟨j / 128, by omega⟩ ⟨j % 128, by omega⟩) else 0

/-- One store over the whole buffer. -/
theorem canon_whole {S : Shape} {e : EltTy} (w : S.Idx → Elt Ideal e) (L : List (View.Piece (Elt Ideal) S e)) (y : S.Idx) :
    View.canon ((⟨Rect.whole S, w⟩ : View.Piece (Elt Ideal) S e) :: L) y = w y := by
  have h := View.canon_cons_emb (Rect.whole S) w L y
  rwa [Rect.emb_whole_apply] at h

/-- The loaded activations. -/
theorem r_val (i : Fin 16) (k : Fin 5120) : r (F := Ideal) c arg7 fh0 (ix2 i k) = xOf c fh0 i k.val := by
  have h : v20 (F := Ideal) c arg7 fh0 = fh0 := by
    unfold v20
    rw [View.readCov_eq_canon']
    funext y
    rw [canon_whole]
    show fh0 _ = fh0 y
    congr 1
    funext a
    apply Fin.ext
    refine Fin.cases ?_ (fun b => Fin.cases ?_ (fun d => Fin.cases ?_ (fun z => z.elim0) d) b) a <;>
    · simp [LoadRect.idx_apply]
  unfold r
  rw [h]
  unfold xOf
  rw [dif_pos k.isLt]
  pointwise [k0_pay3]

/-- The column the row scales are kept in. -/
theorem r_1_val (i : Fin 16) : r_1 (F := Ideal) c arg7 fh0 (ix2 i 0) = upScale (amax 5120 (xOf c fh0 i)) :=
  scale_col _ _ (r_val c arg7 fh0) i

/-- The weights' scratch buffer after the five copies. -/
def wPieces : List (View.Piece (Elt Ideal) S5120x6912 .fp8e4m3) :=
  [⟨Rect.unit ![4864, 0] S256x6912.size inb_S5120x6912_S256x6912_4864_0, dma0_6 c fh1⟩,
   ⟨Rect.unit ![4352, 0] S512x6912.size inb_S5120x6912_S512x6912_4352_0, dma0_5 c fh1⟩,
   ⟨Rect.unit ![3584, 0] S768x6912.size inb_S5120x6912_S768x6912_3584_0, dma0_4 c fh1⟩,
   ⟨Rect.unit ![2304, 0] S1280x6912.size inb_S5120x6912_S1280x6912_2304_0, dma0_3 c fh1⟩,
   ⟨Rect.unit ![0, 0] S2304x6912.size inb_S5120x6912_S2304x6912_0_0, dma0_2 c fh1⟩]

/-- An entry of the weights at given row and column numbers. -/
theorem fh1_at (k : Nat) (j : Nat) (k' : Fin 5120) (j' : Fin 6912) (hk : k = k'.val) (hj : j = j'.val) :
    fh1 (ix2 k' j') = wOf c fh1 k j := by
  subst hk hj
  unfold wOf
  rw [dif_pos ⟨k'.isLt, j'.isLt⟩]

/-- The copies together bring in the weights. -/
theorem wPieces_val (k : Fin 5120) (j : Fin 6912) : View.canon (wPieces c fh1) (ix2 k j) = wOf c fh1 k.val j.val := by
  unfold wPieces
  refine canon_cons2 inb_S5120x6912_S256x6912_4864_0 _ _ k j _ (fun a b h1 h2 => ?_) fun n1 => ?_
  · exact (congrArg fh1 (unit_idx2 (A := 5120) (B := 6912) inb_S5120x6912_S256x6912_4864_0 a b (by omega) (by omega))).trans
      (fh1_at c fh1 _ _ _ _ h1 h2)
  refine canon_cons2 inb_S5120x6912_S512x6912_4352_0 _ _ k j _ (fun a b h1 h2 => ?_) fun n2 => ?_
  · exact (congrArg fh1 (unit_idx2 (A := 5120) (B := 6912) inb_S5120x6912_S512x6912_4352_0 a b (by omega) (by omega))).trans
      (fh1_at c fh1 _ _ _ _ h1 h2)
  refine canon_cons2 inb_S5120x6912_S768x6912_3584_0 _ _ k j _ (fun a b h1 h2 => ?_) fun n3 => ?_
  · exact (congrArg fh1 (unit_idx2 (A := 5120) (B := 6912) inb_S5120x6912_S768x6912_3584_0 a b (by omega) (by omega))).trans
      (fh1_at c fh1 _ _ _ _ h1 h2)
  refine canon_cons2 inb_S5120x6912_S1280x6912_2304_0 _ _ k j _ (fun a b h1 h2 => ?_) fun n4 => ?_
  · exact (congrArg fh1 (unit_idx2 (A := 5120) (B := 6912) inb_S5120x6912_S1280x6912_2304_0 a b (by omega) (by omega))).trans
      (fh1_at c fh1 _ _ _ _ h1 h2)
  refine canon_cons2 inb_S5120x6912_S2304x6912_0_0 _ _ k j _ (fun a b h1 h2 => ?_) fun n5 => ?_
  · exact (congrArg fh1 (unit_idx2 (A := 5120) (B := 6912) inb_S5120x6912_S2304x6912_0_0 a b (by omega) (by omega))).trans
      (fh1_at c fh1 _ _ _ _ h1 h2)
  · exfalso
    have := k.isLt
    have := j.isLt
    omega

/-- A load of a block of weights. -/
theorem wRead {m n a b : Nat}
    (hin : ∀ x, (![a, b] : Fin 2 → Nat) x + (![m, n] : Fin 2 → Nat) x ≤ (![5120, 6912] : Fin 2 → Nat) x)
    (x : Fin m) (l : Fin n) :
    arg8.view.readCov (wPieces c fh1) (Rect.unit (s := ⟨2, ![5120, 6912]⟩) ![a, b] ![m, n] hin).toLoadRect (ix2 x l)
      = wOf c fh1 (a + x.val) (b + l.val) := by
  have h0 : a + m ≤ 5120 := hin 0
  have h1 : b + n ≤ 6912 := hin 1
  have hx := x.isLt
  have hl := l.isLt
  rw [readCov2 _ _ hin x l (by omega) (by omega), wPieces_val]

/-- A load of a block of the padded codes. -/
theorem lRead {n b : Nat}
    (hin : ∀ x, (![0, b] : Fin 2 → Nat) x + (![32, n] : Fin 2 → Nat) x ≤ (![32, 5120] : Fin 2 → Nat) x)
    (i : Fin 32) (hi : i.val < 16) (x : Fin n) :
    arg10.view.readCov (HS3_1 (F := Ideal) c arg7 fh0)
      (Rect.unit (s := ⟨2, ![32, 5120]⟩) ![0, b] ![32, n] hin).toLoadRect (ix2 i x)
      = code (xOf c fh0) ⟨i.val, hi⟩ (b + x.val) := by
  have h1 : b + n ≤ 5120 := hin 1
  have hx := x.isLt
  rw [readCov2 _ _ hin i x (by omega) (by omega)]
  unfold HS3_1
  refine canon_cons2 inb_S32x5120_S32x5120_0_0 _ _ _ _ _ (fun a y e1 e2 => ?_) fun n1 => ?_
  · have ha : a.val < 16 := by simp at e1; omega
    refine (padded (xOf c fh0) _ (r_val c arg7 fh0) a ha y).trans ?_
    congr 1
    · apply Fin.ext
      simp at e1
      exact e1.symm
    · simp at e2
      exact e2.symm
  · exfalso
    apply n1
    simp
    omega

/-- A load of a row of column scales. -/
theorem sRead {t : Nat}
    (hin : ∀ x, (![t, 0] : Fin 2 → Nat) x + (![1, 128] : Fin 2 → Nat) x ≤ (![54, 128] : Fin 2 → Nat) x) (l : Fin 128) :
    arg9.view.readCov [⟨Rect.whole S54x128, dma0_1 c fh2⟩]
      (Rect.unit (s := ⟨2, ![54, 128]⟩) ![t, 0] ![1, 128] hin).toLoadRect (ix2 0 l)
      = sOf c fh2 (128 * t + l.val) := by
  have h0 : t + 1 ≤ 54 := hin 0
  have hl := l.isLt
  rw [readCov2 _ _ hin 0 l (by simp; omega) (by omega), canon_whole]
  unfold sOf
  rw [dif_pos (by omega)]
  have e1 : (⟨t + (0 : Fin 1).val, by simp; omega⟩ : Fin 54) = ⟨(128 * t + l.val) / 128, by omega⟩ := by
    apply Fin.ext
    show t + 0 = (128 * t + l.val) / 128
    omega
  have e2 : (⟨0 + l.val, by omega⟩ : Fin 128) = ⟨(128 * t + l.val) % 128, by omega⟩ := by
    apply Fin.ext
    show 0 + l.val = (128 * t + l.val) % 128
    omega
  rw [e1, e2]
  rfl

end Cert.Values

end
-- ==== Proof.Acc.lean ====
/- The kernel's accumulator: five passes over the depth of the product, each pass in four column groups; after each store,
   which terms of each entry of the product the accumulator holds. -/
module

public import proofs.«01_k».proof.Proof.Reads

@[expose] public section

noncomputable section

namespace Cert.Values

open Idealize.ShloMosaic Cert.KernelIdeal Cert.KernelIdeal.Gen
open Cert.KernelIdeal.Gen.kernelRun0_A.sl

set_option maxRecDepth 16384

/-- The next terms of an entry of the product, added to what is there. -/
theorem step_val (X : Fin 16 → Nat → EReal) (W : Nat → Nat → EReal) (i : Fin 16) (j d : Nat) {n : Nat} (acc : EReal)
    (l w : Fin n → EReal) (hacc : acc = part X W i j d) (hl : ∀ x, l x = code X i (d + x.val))
    (hw : ∀ x, w x = W (d + x.val) j) : acc + ∑ x, l x * w x = part X W i j (d + n) := by
  rw [hacc, ← part_add]
  congr 1
  exact Finset.sum_congr rfl fun x _ => by rw [hl, hw]

/-- The first terms of an entry of the product. -/
theorem first_val (X : Fin 16 → Nat → EReal) (W : Nat → Nat → EReal) (i : Fin 16) (j : Nat) {n : Nat}
    (l w : Fin n → EReal) (hl : ∀ x, l x = code X i (0 + x.val))
    (hw : ∀ x, w x = W (0 + x.val) j) : ∑ x, l x * w x = part X W i j n := by
  rw [← part_zero]
  exact Finset.sum_congr rfl fun x _ => by rw [hl, hw, Nat.zero_add]

section Stores

variable (i : Fin 16)

/-- The store of pass 1, column group 1. -/
theorem pay_1_1 (lhs : Vec Ideal S32x2304 .fp8e4m3) (w : Vec Ideal S2304x3328 .fp8e4m3) (j : Fin 3328) :
    k0_pay11 lhs w (ix2 i j) = ∑ x, lhs (ix2 ⟨i.val, by omega⟩ x) * w (ix2 x j) := by
  pointwise [k0_pay11]

/-- The store of pass 1, column group 2. -/
theorem pay_1_2 (lhs : Vec Ideal S32x2304 .fp8e4m3) (w : Vec Ideal S2304x128 .fp8e4m3) (j : Fin 128) :
    k0_pay12 lhs w (ix2 i j) = ∑ x, lhs (ix2 ⟨i.val, by omega⟩ x) * w (ix2 x j) := by
  pointwise [k0_pay12]

/-- The store of pass 1, column group 3. -/
theorem pay_1_3 (lhs : Vec Ideal S32x2304 .fp8e4m3) (w : Vec Ideal S2304x3328 .fp8e4m3) (j : Fin 3328) :
    k0_pay13 lhs w (ix2 i j) = ∑ x, lhs (ix2 ⟨i.val, by omega⟩ x) * w (ix2 x j) := by
  pointwise [k0_pay13]

/-- The store of pass 1, column group 4. -/
theorem pay_1_4 (lhs : Vec Ideal S32x2304 .fp8e4m3) (w : Vec Ideal S2304x128 .fp8e4m3) (j : Fin 128) :
    k0_pay14 lhs w (ix2 i j) = ∑ x, lhs (ix2 ⟨i.val, by omega⟩ x) * w (ix2 x j) := by
  pointwise [k0_pay14]

/-- The store of pass 2, column group 1. -/
theorem pay_2_1 (lhs : Vec Ideal S32x1280 .fp8e4m3) (w : Vec Ideal S1280x3328 .fp8e4m3) (acc : Vec Ideal S16x3328 .f32)
    (j : Fin 3328) : k0_pay15 lhs w acc (ix2 i j) = acc (ix2 i j) + ∑ x, lhs (ix2 ⟨i.val, by omega⟩ x) * w (ix2 x j) := by
  pointwise [k0_pay15]

/-- The store of pass 2, column group 2. -/
theorem pay_2_2 (lhs : Vec Ideal S32x1280 .fp8e4m3) (w : Vec Ideal S1280x128 .fp8e4m3) (acc : Vec Ideal S16x128 .f32)
    (j : Fin 128) : k0_pay16 lhs w acc (ix2 i j) = acc (ix2 i j) + ∑ x, lhs (ix2 ⟨i.val, by omega⟩ x) * w (ix2 x j) := by
  pointwise [k0_pay16]

/-- The store of pass 2, column group 3. -/
theorem pay_2_3 (lhs : Vec Ideal S32x1280 .fp8e4m3) (w : Vec Ideal S1280x3328 .fp8e4m3) (acc : Vec Ideal S16x3328 .f32)
    (j : Fin 3328) : k0_pay17 lhs w acc (ix2 i j) = acc (ix2 i j) + ∑ x, lhs (ix2 ⟨i.val, by omega⟩ x) * w (ix2 x j) := by
  pointwise [k0_pay17]

/-- The store of pass 2, column group 4. -/
theorem pay_2_4 (lhs : Vec Ideal S32x1280 .fp8e4m3) (w : Vec Ideal S1280x128 .fp8e4m3) (acc : Vec Ideal S16x128 .f32)
    (j : Fin 128) : k0_pay18 lhs w cst_107 acc (ix2 i j) = acc (ix2 i j) + ∑ x, lhs (ix2 ⟨i.val, by omega⟩ x) * w (ix2 x j) := by
  pointwise [k0_pay18, cst_107]

/-- The store of pass 3, column group 1. -/
theorem pay_3_1 (lhs : Vec Ideal S32x768 .fp8e4m3) (w : Vec Ideal S768x3328 .fp8e4m3) (acc : Vec Ideal S16x3328 .f32)
    (j : Fin 3328) : k0_pay19 lhs w acc (ix2 i j) = acc (ix2 i j) + ∑ x, lhs (ix2 ⟨i.val, by omega⟩ x) * w (ix2 x j) := by
  pointwise [k0_pay19]

/-- The store of pass 3, column group 2. -/
theorem pay_3_2 (lhs : Vec Ideal S32x768 .fp8e4m3) (w : Vec Ideal S768x128 .fp8e4m3) (acc : Vec Ideal S16x128 .f32)
    (j : Fin 128) : k0_pay20 lhs w acc (ix2 i j) = acc (ix2 i j) + ∑ x, lhs (ix2 ⟨i.val, by omega⟩ x) * w (ix2 x j) := by
  pointwise [k0_pay20]

/-- The store of pass 3, column group 3. -/
theorem pay_3_3 (lhs : Vec Ideal S32x768 .fp8e4m3) (w : Vec Ideal S768x3328 .fp8e4m3) (acc : Vec Ideal S16x3328 .f32)
    (j : Fin 3328) : k0_pay21 lhs w acc (ix2 i j) = acc (ix2 i j) + ∑ x, lhs (ix2 ⟨i.val, by omega⟩ x) * w (ix2 x j) := by
  pointwise [k0_pay21]

/-- The store of pass 3, column group 4. -/
theorem pay_3_4 (lhs : Vec Ideal S32x768 .fp8e4m3) (w : Vec Ideal S768x128 .fp8e4m3) (acc : Vec Ideal S16x128 .f32)
    (j : Fin 128) : k0_pay22 lhs w acc (ix2 i j) = acc (ix2 i j) + ∑ x, lhs (ix2 ⟨i.val, by omega⟩ x) * w (ix2 x j) := by
  pointwise [k0_pay22]

/-- The store of pass 4, column group 1. -/
theorem pay_4_1 (lhs : Vec Ideal S32x512 .fp8e4m3) (w : Vec Ideal S512x3328 .fp8e4m3) (acc : Vec Ideal S16x3328 .f32)
    (j : Fin 3328) : k0_pay24 (k0_pay23 lhs w) acc (ix2 i j) = acc (ix2 i j) + ∑ x, lhs (ix2 ⟨i.val, by omega⟩ x) * w (ix2 x j) := by
  pointwise [k0_pay24, k0_pay23]

/-- The store of pass 4, column group 2. -/
theorem pay_4_2 (lhs : Vec Ideal S32x512 .fp8e4m3) (w : Vec Ideal S512x128 .fp8e4m3) (acc : Vec Ideal S16x128 .f32)
    (j : Fin 128) : k0_pay25 lhs w acc (ix2 i j) = acc (ix2 i j) + ∑ x, lhs (ix2 ⟨i.val, by omega⟩ x) * w (ix2 x j) := by
  pointwise [k0_pay25]

/-- The store of pass 4, column group 3. -/
theorem pay_4_3 (lhs : Vec Ideal S32x512 .fp8e4m3) (w : Vec Ideal S512x3328 .fp8e4m3) (acc : Vec Ideal S16x3328 .f32)
    (j : Fin 3328) : k0_pay26 lhs w acc (ix2 i j) = acc (ix2 i j) + ∑ x, lhs (ix2 ⟨i.val, by omega⟩ x) * w (ix2 x j) := by
  pointwise [k0_pay26]

/-- The store of pass 4, column group 4. -/
theorem pay_4_4 (lhs : Vec Ideal S32x512 .fp8e4m3) (w : Vec Ideal S512x128 .fp8e4m3) (acc : Vec Ideal S16x128 .f32)
    (j : Fin 128) : k0_pay28 (k0_pay27 lhs w acc) (ix2 i j) = acc (ix2 i j) + ∑ x, lhs (ix2 ⟨i.val, by omega⟩ x) * w (ix2 x j) := by
  pointwise [k0_pay28, k0_pay27]

end Stores

variable (c : Dev nD) (arg7 : Memref sig .tc .vmem S2x8x5120 .bf16) (arg8 : Memref sig .tc .vmem S5120x6912 .fp8e4m3)
  (arg10 : Memref sig .tc .vmem S32x5120 .fp8e4m3) (arg11 : Memref sig .tc .vmem S16x6912 .f32)
  (fh0 : HbBuf0 (F := Ideal) c hbM0_0) (fh1 : HbBuf0 (F := Ideal) c hbM0_1)

/-- A load of a block of the accumulator. -/
theorem aRead (L : List (View.Piece (Elt Ideal) S16x6912 .f32)) (d : Nat → Nat)
    (hL : ∀ (i : Fin 16) (j : Fin 6912), View.canon L (ix2 i j) = part (xOf c fh0) (wOf c fh1) i j.val (d j.val)) {n b : Nat}
    (hin : ∀ x, (![0, b] : Fin 2 → Nat) x + (![16, n] : Fin 2 → Nat) x ≤ (![16, 6912] : Fin 2 → Nat) x)
    (i : Fin 16) (l : Fin n) :
    arg11.view.readCov L (Rect.unit (s := ⟨2, ![16, 6912]⟩) ![0, b] ![16, n] hin).toLoadRect (ix2 i l)
      = part (xOf c fh0) (wOf c fh1) i (b + l.val) (d (b + l.val)) := by
  have h1 : b + n ≤ 6912 := hin 1
  have hl := l.isLt
  rw [readCov2 _ _ hin i l (by omega) (by omega), hL]
  congr 1
  apply Fin.ext
  show 0 + i.val = i.val
  omega

/-- After pass 1 every entry holds its first 2304 terms. -/
theorem acc_4 (i : Fin 16) (j : Fin 6912) : View.canon (HS4_4 (F := Ideal) c arg7 arg8 arg10 fh0 fh1) (ix2 i j)
    = part (xOf c fh0) (wOf c fh1) i j.val 2304 := by
  unfold HS4_4
  refine canon_cons2 inb_S16x6912_S16x128_0_6784 _ _ i j _ (fun a b h1 h2 => ?_) fun n3 => ?_
  · obtain rfl : i = a := Fin.ext (by omega)
    refine (pay_1_4 i _ _ b).trans ?_
    rw [h2]
    exact first_val _ _ i _ _ _ (fun x => lRead c arg7 arg10 fh0 inb_S32x5120_S32x2304_0_0 _ i.isLt x)
      (fun x => wRead c arg8 fh1 inb_S5120x6912_S2304x128_0_6784 x b)
  refine canon_cons2 inb_S16x6912_S16x3328_0_3456 _ _ i j _ (fun a b h1 h2 => ?_) fun n2 => ?_
  · obtain rfl : i = a := Fin.ext (by omega)
    refine (pay_1_3 i _ _ b).trans ?_
    rw [h2]
    exact first_val _ _ i _ _ _ (fun x => lRead c arg7 arg10 fh0 inb_S32x5120_S32x2304_0_0 _ i.isLt x)
      (fun x => wRead c arg8 fh1 inb_S5120x6912_S2304x3328_0_3456 x b)
  refine canon_cons2 inb_S16x6912_S16x128_0_3328 _ _ i j _ (fun a b h1 h2 => ?_) fun n1 => ?_
  · obtain rfl : i = a := Fin.ext (by omega)
    refine (pay_1_2 i _ _ b).trans ?_
    rw [h2]
    exact first_val _ _ i _ _ _ (fun x => lRead c arg7 arg10 fh0 inb_S32x5120_S32x2304_0_0 _ i.isLt x)
      (fun x => wRead c arg8 fh1 inb_S5120x6912_S2304x128_0_3328 x b)
  refine canon_cons2 inb_S16x6912_S16x3328_0_0 _ _ i j _ (fun a b h1 h2 => ?_) fun n0 => ?_
  · obtain rfl : i = a := Fin.ext (by omega)
    refine (pay_1_1 i _ _ b).trans ?_
    rw [h2]
    exact first_val _ _ i _ _ _ (fun x => lRead c arg7 arg10 fh0 inb_S32x5120_S32x2304_0_0 _ i.isLt x)
      (fun x => wRead c arg8 fh1 inb_S5120x6912_S2304x3328_0_0 x b)
  · exfalso
    have := i.isLt
    have := j.isLt
    omega

/-- After the store of pass 2, column group 1. -/
theorem acc_5 (i : Fin 16) (j : Fin 6912) : View.canon (HS4_5 (F := Ideal) c arg7 arg8 arg10 arg11 fh0 fh1) (ix2 i j)
    = part (xOf c fh0) (wOf c fh1) i j.val (if j.val < 3328 then 3584 else 2304) := by
  unfold HS4_5
  refine canon_cons2 inb_S16x6912_S16x3328_0_0 _ _ i j _ (fun a b h1 h2 => ?_) fun n1 => ?_
  · obtain rfl : i = a := Fin.ext (by omega)
    refine (pay_2_1 i _ _ _ b).trans ?_
    have hb := b.isLt
    rw [h2, show (if (0 + b.val) < 3328 then 3584 else 2304) = 2304 + 1280 by rw [if_pos (by omega)]]
    refine step_val _ _ i _ _ _ _ _ ?_ (fun x => lRead c arg7 arg10 fh0 inb_S32x5120_S32x1280_0_2304 _ i.isLt x)
      (fun x => wRead c arg8 fh1 inb_S5120x6912_S1280x3328_2304_0 x b)
    refine (aRead c arg11 fh0 fh1 _ (fun v => 2304) (acc_4 c arg7 arg8 arg10 fh0 fh1) inb_S16x6912_S16x3328_0_0 i b).trans ?_
    rfl
  · refine (acc_4 c arg7 arg8 arg10 fh0 fh1 i j).trans ?_
    have := i.isLt
    have := j.isLt
    congr 1
    split_ifs <;> omega

/-- After the store of pass 2, column group 2. -/
theorem acc_6 (i : Fin 16) (j : Fin 6912) : View.canon (HS4_6 (F := Ideal) c arg7 arg8 arg10 arg11 fh0 fh1) (ix2 i j)
    = part (xOf c fh0) (wOf c fh1) i j.val (if j.val < 3456 then 3584 else 2304) := by
  unfold HS4_6
  refine canon_cons2 inb_S16x6912_S16x128_0_3328 _ _ i j _ (fun a b h1 h2 => ?_) fun n1 => ?_
  · obtain rfl : i = a := Fin.ext (by omega)
    refine (pay_2_2 i _ _ _ b).trans ?_
    have hb := b.isLt
    rw [h2, show (if (3328 + b.val) < 3456 then 3584 else 2304) = 2304 + 1280 by rw [if_pos (by omega)]]
    refine step_val _ _ i _ _ _ _ _ ?_ (fun x => lRead c arg7 arg10 fh0 inb_S32x5120_S32x1280_0_2304 _ i.isLt x)
      (fun x => wRead c arg8 fh1 inb_S5120x6912_S1280x128_2304_3328 x b)
    refine (aRead c arg11 fh0 fh1 _ (fun v => (if v < 3328 then 3584 else 2304)) (acc_5 c arg7 arg8 arg10 arg11 fh0 fh1) inb_S16x6912_S16x128_0_3328 i b).trans ?_
    congr 1; exact if_neg (by omega)
  · refine (acc_5 c arg7 arg8 arg10 arg11 fh0 fh1 i j).trans ?_
    have := i.isLt
    have := j.isLt
    congr 1
    split_ifs <;> omega

/-- After the store of pass 2, column group 3. -/
theorem acc_7 (i : Fin 16) (j : Fin 6912) : View.canon (HS4_7 (F := Ideal) c arg7 arg8 arg10 arg11 fh0 fh1) (ix2 i j)
    = part (xOf c fh0) (wOf c fh1) i j.val (if j.val < 6784 then 3584 else 2304) := by
  unfold HS4_7
  refine canon_cons2 inb_S16x6912_S16x3328_0_3456 _ _ i j _ (fun a b h1 h2 => ?_) fun n1 => ?_
  · obtain rfl : i = a := Fin.ext (by omega)
    refine (pay_2_3 i _ _ _ b).trans ?_
    have hb := b.isLt
    rw [h2, show (if (3456 + b.val) < 6784 then 3584 else 2304) = 2304 + 1280 by rw [if_pos (by omega)]]
    refine step_val _ _ i _ _ _ _ _ ?_ (fun x => lRead c arg7 arg10 fh0 inb_S32x5120_S32x1280_0_2304 _ i.isLt x)
      (fun x => wRead c arg8 fh1 inb_S5120x6912_S1280x3328_2304_3456 x b)
    refine (aRead c arg11 fh0 fh1 _ (fun v => (if v < 3456 then 3584 else 2304)) (acc_6 c arg7 arg8 arg10 arg11 fh0 fh1) inb_S16x6912_S16x3328_0_3456 i b).trans ?_
    congr 1; exact if_neg (by omega)
  · refine (acc_6 c arg7 arg8 arg10 arg11 fh0 fh1 i j).trans ?_
    have := i.isLt
    have := j.isLt
    congr 1
    split_ifs <;> omega

/-- After the store of pass 2, column group 4. -/
theorem acc_8 (i : Fin 16) (j : Fin 6912) : View.canon (HS4_8 (F := Ideal) c arg7 arg8 arg10 arg11 fh0 fh1) (ix2 i j)
    = part (xOf c fh0) (wOf c fh1) i j.val 3584 := by
  unfold HS4_8
  refine canon_cons2 inb_S16x6912_S16x128_0_6784 _ _ i j _ (fun a b h1 h2 => ?_) fun n1 => ?_
  · obtain rfl : i = a := Fin.ext (by omega)
    refine (pay_2_4 i _ _ _ b).trans ?_
    have hb := b.isLt
    rw [h2, show 3584 = 2304 + 1280 by rfl]
    refine step_val _ _ i _ _ _ _ _ ?_ (fun x => lRead c arg7 arg10 fh0 inb_S32x5120_S32x1280_0_2304 _ i.isLt x)
      (fun x => wRead c arg8 fh1 inb_S5120x6912_S1280x128_2304_6784 x b)
    refine (aRead c arg11 fh0 fh1 _ (fun v => (if v < 6784 then 3584 else 2304)) (acc_7 c arg7 arg8 arg10 arg11 fh0 fh1) inb_S16x6912_S16x128_0_6784 i b).trans ?_
    congr 1; exact if_neg (by omega)
  · refine (acc_7 c arg7 arg8 arg10 arg11 fh0 fh1 i j).trans ?_
    have := i.isLt
    have := j.isLt
    congr 1
    split_ifs <;> omega

/-- After the store of pass 3, column group 1. -/
theorem acc_9 (i : Fin 16) (j : Fin 6912) : View.canon (HS4_9 (F := Ideal) c arg7 arg8 arg10 arg11 fh0 fh1) (ix2 i j)
    = part (xOf c fh0) (wOf c fh1) i j.val (if j.val < 3328 then 4352 else 3584) := by
  unfold HS4_9
  refine canon_cons2 inb_S16x6912_S16x3328_0_0 _ _ i j _ (fun a b h1 h2 => ?_) fun n1 => ?_
  · obtain rfl : i = a := Fin.ext (by omega)
    refine (pay_3_1 i _ _ _ b).trans ?_
    have hb := b.isLt
    rw [h2, show (if (0 + b.val) < 3328 then 4352 else 3584) = 3584 + 768 by rw [if_pos (by omega)]]
    refine step_val _ _ i _ _ _ _ _ ?_ (fun x => lRead c arg7 arg10 fh0 inb_S32x5120_S32x768_0_3584 _ i.isLt x)
      (fun x => wRead c arg8 fh1 inb_S5120x6912_S768x3328_3584_0 x b)
    refine (aRead c arg11 fh0 fh1 _ (fun v => 3584) (acc_8 c arg7 arg8 arg10 arg11 fh0 fh1) inb_S16x6912_S16x3328_0_0 i b).trans ?_
    rfl
  · refine (acc_8 c arg7 arg8 arg10 arg11 fh0 fh1 i j).trans ?_
    have := i.isLt
    have := j.isLt
    congr 1
    split_ifs <;> omega

/-- After the store of pass 3, column group 2. -/
theorem acc_10 (i : Fin 16) (j : Fin 6912) : View.canon (HS4_10 (F := Ideal) c arg7 arg8 arg10 arg11 fh0 fh1) (ix2 i j)
    = part (xOf c fh0) (wOf c fh1) i j.val (if j.val < 3456 then 4352 else 3584) := by
  unfold HS4_10
  refine canon_cons2 inb_S16x6912_S16x128_0_3328 _ _ i j _ (fun a b h1 h2 => ?_) fun n1 => ?_
  · obtain rfl : i = a := Fin.ext (by omega)
    refine (pay_3_2 i _ _ _ b).trans ?_
    have hb := b.isLt
    rw [h2, show (if (3328 + b.val) < 3456 then 4352 else 3584) = 3584 + 768 by rw [if_pos (by omega)]]
    refine step_val _ _ i _ _ _ _ _ ?_ (fun x => lRead c arg7 arg10 fh0 inb_S32x5120_S32x768_0_3584 _ i.isLt x)
      (fun x => wRead c arg8 fh1 inb_S5120x6912_S768x128_3584_3328 x b)
    refine (aRead c arg11 fh0 fh1 _ (fun v => (if v < 3328 then 4352 else 3584)) (acc_9 c arg7 arg8 arg10 arg11 fh0 fh1) inb_S16x6912_S16x128_0_3328 i b).trans ?_
    congr 1; exact if_neg (by omega)
  · refine (acc_9 c arg7 arg8 arg10 arg11 fh0 fh1 i j).trans ?_
    have := i.isLt
    have := j.isLt
    congr 1
    split_ifs <;> omega

/-- After the store of pass 3, column group 3. -/
theorem acc_11 (i : Fin 16) (j : Fin 6912) : View.canon (HS4_11 (F := Ideal) c arg7 arg8 arg10 arg11 fh0 fh1) (ix2 i j)
    = part (xOf c fh0) (wOf c fh1) i j.val (if j.val < 6784 then 4352 else 3584) := by
  unfold HS4_11
  refine canon_cons2 inb_S16x6912_S16x3328_0_3456 _ _ i j _ (fun a b h1 h2 => ?_) fun n1 => ?_
  · obtain rfl : i = a := Fin.ext (by omega)
    refine (pay_3_3 i _ _ _ b).trans ?_
    have hb := b.isLt
    rw [h2, show (if (3456 + b.val) < 6784 then 4352 else 3584) = 3584 + 768 by rw [if_pos (by omega)]]
    refine step_val _ _ i _ _ _ _ _ ?_ (fun x => lRead c arg7 arg10 fh0 inb_S32x5120_S32x768_0_3584 _ i.isLt x)
      (fun x => wRead c arg8 fh1 inb_S5120x6912_S768x3328_3584_3456 x b)
    refine (aRead c arg11 fh0 fh1 _ (fun v => (if v < 3456 then 4352 else 3584)) (acc_10 c arg7 arg8 arg10 arg11 fh0 fh1) inb_S16x6912_S16x3328_0_3456 i b).trans ?_
    congr 1; exact if_neg (by omega)
  · refine (acc_10 c arg7 arg8 arg10 arg11 fh0 fh1 i j).trans ?_
    have := i.isLt
    have := j.isLt
    congr 1
    split_ifs <;> omega

/-- After the store of pass 3, column group 4. -/
theorem acc_12 (i : Fin 16) (j : Fin 6912) : View.canon (HS4_12 (F := Ideal) c arg7 arg8 arg10 arg11 fh0 fh1) (ix2 i j)
    = part (xOf c fh0) (wOf c fh1) i j.val 4352 := by
  unfold HS4_12
  refine canon_cons2 inb_S16x6912_S16x128_0_6784 _ _ i j _ (fun a b h1 h2 => ?_) fun n1 => ?_
  · obtain rfl : i = a := Fin.ext (by omega)
    refine (pay_3_4 i _ _ _ b).trans ?_
    have hb := b.isLt
    rw [h2, show 4352 = 3584 + 768 by rfl]
    refine step_val _ _ i _ _ _ _ _ ?_ (fun x => lRead c arg7 arg10 fh0 inb_S32x5120_S32x768_0_3584 _ i.isLt x)
      (fun x => wRead c arg8 fh1 inb_S5120x6912_S768x128_3584_6784 x b)
    refine (aRead c arg11 fh0 fh1 _ (fun v => (if v < 6784 then 4352 else 3584)) (acc_11 c arg7 arg8 arg10 arg11 fh0 fh1) inb_S16x6912_S16x128_0_6784 i b).trans ?_
    congr 1; exact if_neg (by omega)
  · refine (acc_11 c arg7 arg8 arg10 arg11 fh0 fh1 i j).trans ?_
    have := i.isLt
    have := j.isLt
    congr 1
    split_ifs <;> omega

/-- After the store of pass 4, column group 1. -/
theorem acc_13 (i : Fin 16) (j : Fin 6912) : View.canon (HS4_13 (F := Ideal) c arg7 arg8 arg10 arg11 fh0 fh1) (ix2 i j)
    = part (xOf c fh0) (wOf c fh1) i j.val (if j.val < 3328 then 4864 else 4352) := by
  unfold HS4_13
  refine canon_cons2 inb_S16x6912_S16x3328_0_0 _ _ i j _ (fun a b h1 h2 => ?_) fun n1 => ?_
  · obtain rfl : i = a := Fin.ext (by omega)
    refine (pay_4_1 i _ _ _ b).trans ?_
    have hb := b.isLt
    rw [h2, show (if (0 + b.val) < 3328 then 4864 else 4352) = 4352 + 512 by rw [if_pos (by omega)]]
    refine step_val _ _ i _ _ _ _ _ ?_ (fun x => lRead c arg7 arg10 fh0 inb_S32x5120_S32x512_0_4352 _ i.isLt x)
      (fun x => wRead c arg8 fh1 inb_S5120x6912_S512x3328_4352_0 x b)
    refine (aRead c arg11 fh0 fh1 _ (fun v => 4352) (acc_12 c arg7 arg8 arg10 arg11 fh0 fh1) inb_S16x6912_S16x3328_0_0 i b).trans ?_
    rfl
  · refine (acc_12 c arg7 arg8 arg10 arg11 fh0 fh1 i j).trans ?_
    have := i.isLt
    have := j.isLt
    congr 1
    split_ifs <;> omega

/-- After the store of pass 4, column group 2. -/
theorem acc_14 (i : Fin 16) (j : Fin 6912) : View.canon (HS4_14 (F := Ideal) c arg7 arg8 arg10 arg11 fh0 fh1) (ix2 i j)
    = part (xOf c fh0) (wOf c fh1) i j.val (if j.val < 3456 then 4864 else 4352) := by
  unfold HS4_14
  refine canon_cons2 inb_S16x6912_S16x128_0_3328 _ _ i j _ (fun a b h1 h2 => ?_) fun n1 => ?_
  · obtain rfl : i = a := Fin.ext (by omega)
    refine (pay_4_2 i _ _ _ b).trans ?_
    have hb := b.isLt
    rw [h2, show (if (3328 + b.val) < 3456 then 4864 else 4352) = 4352 + 512 by rw [if_pos (by omega)]]
    refine step_val _ _ i _ _ _ _ _ ?_ (fun x => lRead c arg7 arg10 fh0 inb_S32x5120_S32x512_0_4352 _ i.isLt x)
      (fun x => wRead c arg8 fh1 inb_S5120x6912_S512x128_4352_3328 x b)
    refine (aRead c arg11 fh0 fh1 _ (fun v => (if v < 3328 then 4864 else 4352)) (acc_13 c arg7 arg8 arg10 arg11 fh0 fh1) inb_S16x6912_S16x128_0_3328 i b).trans ?_
    congr 1; exact if_neg (by omega)
  · refine (acc_13 c arg7 arg8 arg10 arg11 fh0 fh1 i j).trans ?_
    have := i.isLt
    have := j.isLt
    congr 1
    split_ifs <;> omega

/-- After the store of pass 4, column group 3. -/
theorem acc_15 (i : Fin 16) (j : Fin 6912) : View.canon (HS4_15 (F := Ideal) c arg7 arg8 arg10 arg11 fh0 fh1) (ix2 i j)
    = part (xOf c fh0) (wOf c fh1) i j.val (if j.val < 6784 then 4864 else 4352) := by
  unfold HS4_15
  refine canon_cons2 inb_S16x6912_S16x3328_0_3456 _ _ i j _ (fun a b h1 h2 => ?_) fun n1 => ?_
  · obtain rfl : i = a := Fin.ext (by omega)
    refine (pay_4_3 i _ _ _ b).trans ?_
    have hb := b.isLt
    rw [h2, show (if (3456 + b.val) < 6784 then 4864 else 4352) = 4352 + 512 by rw [if_pos (by omega)]]
    refine step_val _ _ i _ _ _ _ _ ?_ (fun x => lRead c arg7 arg10 fh0 inb_S32x5120_S32x512_0_4352 _ i.isLt x)
      (fun x => wRead c arg8 fh1 inb_S5120x6912_S512x3328_4352_3456 x b)
    refine (aRead c arg11 fh0 fh1 _ (fun v => (if v < 3456 then 4864 else 4352)) (acc_14 c arg7 arg8 arg10 arg11 fh0 fh1) inb_S16x6912_S16x3328_0_3456 i b).trans ?_
    congr 1; exact if_neg (by omega)
  · refine (acc_14 c arg7 arg8 arg10 arg11 fh0 fh1 i j).trans ?_
    have := i.isLt
    have := j.isLt
    congr 1
    split_ifs <;> omega

/-- After the store of pass 4, column group 4. -/
theorem acc_16 (i : Fin 16) (j : Fin 6912) : View.canon (HS4_16 (F := Ideal) c arg7 arg8 arg10 arg11 fh0 fh1) (ix2 i j)
    = part (xOf c fh0) (wOf c fh1) i j.val 4864 := by
  unfold HS4_16
  refine canon_cons2 inb_S16x6912_S16x128_0_6784 _ _ i j _ (fun a b h1 h2 => ?_) fun n1 => ?_
  · obtain rfl : i = a := Fin.ext (by omega)
    refine (pay_4_4 i _ _ _ b).trans ?_
    have hb := b.isLt
    rw [h2, show 4864 = 4352 + 512 by rfl]
    refine step_val _ _ i _ _ _ _ _ ?_ (fun x => lRead c arg7 arg10 fh0 inb_S32x5120_S32x512_0_4352 _ i.isLt x)
      (fun x => wRead c arg8 fh1 inb_S5120x6912_S512x128_4352_6784 x b)
    refine (aRead c arg11 fh0 fh1 _ (fun v => (if v < 6784 then 4864 else 4352)) (acc_15 c arg7 arg8 arg10 arg11 fh0 fh1) inb_S16x6912_S16x128_0_6784 i b).trans ?_
    congr 1; exact if_neg (by omega)
  · refine (acc_15 c arg7 arg8 arg10 arg11 fh0 fh1 i j).trans ?_
    have := i.isLt
    have := j.isLt
    congr 1
    split_ifs <;> omega

end Cert.Values

end
-- ==== Proof.Tile.lean ====
/- One 128-column tile of the gated value: the last pass of the product, the scales and the gating, read at an index. -/
module

public import proofs.«01_k».proof.Proof.Acc

@[expose] public section

noncomputable section

namespace Cert.Values

open Idealize.ShloMosaic Cert.KernelIdeal Cert.KernelIdeal.Gen
open Cert.KernelIdeal.Gen.kernelRun0_A.sl

set_option maxRecDepth 16384

section Tile

variable (X : Fin 16 → Nat → EReal) (W : Nat → Nat → EReal) (s : Nat → EReal)

/-- The last terms of an entry of the product, then the two scales. -/
theorem lin_val (i : Fin 16) (j : Nat) (acc sx sc : EReal) (l w : Fin 256 → EReal)
    (hacc : acc = part X W i j 4864) (hl : ∀ x, l x = code X i (4864 + x.val)) (hw : ∀ x, w x = W (4864 + x.val) j)
    (hx : sx = upScale (amax 5120 (X i))) (hs : sc = s j) :
    (acc + ∑ x, l x * w x) * sx * sc = lin X W s i j := by
  rw [step_val X W i j 4864 acc l w hacc hl hw, hx, hs]
  rfl

variable (t lo up tu : Nat) (i : Fin 16) (hi : i.val < 32) (sx : FVec Ideal S16x1 .f32) (lhs : Vec Ideal S32x256 .fp8e4m3)
  (a b : Vec Ideal S1x128 .f32)
  (hx : sx (ix2 i 0) = upScale (amax 5120 (X i)))
  (hl : ∀ x, lhs (ix2 ⟨i.val, hi⟩ x) = code X i (4864 + x.val))
  (ha : ∀ l, a (ix2 0 l) = s (128 * t + l.val)) (hb : ∀ l, b (ix2 0 l) = s (128 * tu + l.val))
  (htu : 128 * tu = 3456 + 128 * t)
include hx hl ha hb htu

section Wide

variable (accg accu : Vec Ideal S16x256 .f32) (wg wu : Vec Ideal S256x256 .fp8e4m3)
  (hg : ∀ l : Fin 256, accg (ix2 i l) = part X W i (lo + l.val) 4864)
  (hu : ∀ l : Fin 256, accu (ix2 i l) = part X W i (up + l.val) 4864)
  (hwg : ∀ (x : Fin 256) (l : Fin 256), wg (ix2 x l) = W (4864 + x.val) (lo + l.val))
  (hwu : ∀ (x : Fin 256) (l : Fin 256), wu (ix2 x l) = W (4864 + x.val) (up + l.val))
  (hup : up = 3456 + lo)
include hg hu hwg hwu hup

/-- The first half of a 256-column block. -/
theorem tileLo_val (hlo : lo = 128 * t) (l : Fin 128) :
    k0_pay42 sx accg lhs wg accu lhs wu a b (ix2 i l) = hid X W s i (128 * t + l.val) := by
  have hlt := l.isLt
  have e1 : (accg (ix2 i ⟨l.val, by omega⟩) + ∑ x, lhs (ix2 ⟨i.val, hi⟩ x) * wg (ix2 x ⟨l.val, by omega⟩))
      * sx (ix2 i 0) * a (ix2 0 l) = lin X W s i (128 * t + l.val) :=
    lin_val X W s i _ _ _ _ _ _ ((hg ⟨l.val, by omega⟩).trans (by rw [hlo])) hl
      (fun x => (hwg x ⟨l.val, by omega⟩).trans (by rw [hlo])) hx (ha l)
  have e2 : (accu (ix2 i ⟨l.val, by omega⟩) + ∑ x, lhs (ix2 ⟨i.val, hi⟩ x) * wu (ix2 x ⟨l.val, by omega⟩))
      * sx (ix2 i 0) * b (ix2 0 l) = lin X W s i (3456 + (128 * t + l.val)) :=
    lin_val X W s i _ _ _ _ _ _ ((hu ⟨l.val, by omega⟩).trans (by congr 1; show up + l.val = _; omega)) hl
      (fun x => (hwu x ⟨l.val, by omega⟩).trans (by congr 1; show up + l.val = _; omega)) hx
      ((hb l).trans (by congr 1; omega))
  unfold hid
  rw [← e1, ← e2]
  pointwise [k0_pay42, k0_pay40, k0_pay41]
  rfl

/-- The second half of a 256-column block. -/
theorem tileHi_val (hlo : lo + 128 = 128 * t) (l : Fin 128) :
    k0_pay37 sx (k0_pay30 accg lhs wg) (k0_pay31 accu lhs wu) a b (ix2 i l) = hid X W s i (128 * t + l.val) := by
  have hlt := l.isLt
  have e1 : (accg (ix2 i ⟨128 + l.val, by omega⟩) + ∑ x, lhs (ix2 ⟨i.val, hi⟩ x) * wg (ix2 x ⟨128 + l.val, by omega⟩))
      * sx (ix2 i 0) * a (ix2 0 l) = lin X W s i (128 * t + l.val) :=
    lin_val X W s i _ _ _ _ _ _
      ((hg ⟨128 + l.val, by omega⟩).trans (by congr 1; show lo + (128 + l.val) = _; omega)) hl
      (fun x => (hwg x ⟨128 + l.val, by omega⟩).trans (by congr 1; show lo + (128 + l.val) = _; omega)) hx (ha l)
  have e2 : (accu (ix2 i ⟨128 + l.val, by omega⟩) + ∑ x, lhs (ix2 ⟨i.val, hi⟩ x) * wu (ix2 x ⟨128 + l.val, by omega⟩))
      * sx (ix2 i 0) * b (ix2 0 l) = lin X W s i (3456 + (128 * t + l.val)) :=
    lin_val X W s i _ _ _ _ _ _
      ((hu ⟨128 + l.val, by omega⟩).trans (by congr 1; show up + (128 + l.val) = _; omega)) hl
      (fun x => (hwu x ⟨128 + l.val, by omega⟩).trans (by congr 1; show up + (128 + l.val) = _; omega)) hx
      ((hb l).trans (by congr 1; omega))
  unfold hid
  rw [← e1, ← e2]
  pointwise [k0_pay37, k0_pay30, k0_pay31]
  rfl

end Wide

variable (accg accu : Vec Ideal S16x128 .f32) (wg wu : Vec Ideal S256x128 .fp8e4m3)
  (hg : ∀ l : Fin 128, accg (ix2 i l) = part X W i (128 * t + l.val) 4864)
  (hu : ∀ l : Fin 128, accu (ix2 i l) = part X W i (up + l.val) 4864)
  (hwg : ∀ (x : Fin 256) (l : Fin 128), wg (ix2 x l) = W (4864 + x.val) (128 * t + l.val))
  (hwu : ∀ (x : Fin 256) (l : Fin 128), wu (ix2 x l) = W (4864 + x.val) (up + l.val))
  (hup : up = 3456 + 128 * t)
include hg hu hwg hwu hup

/-- The last tile, which stands alone. -/
theorem tileLast_val (l : Fin 128) :
    k0_pay161 sx (k0_pay159 accu lhs wu) (k0_pay160 sx accg lhs wg) a b (ix2 i l) = hid X W s i (128 * t + l.val) := by
  have e1 : (accg (ix2 i l) + ∑ x, lhs (ix2 ⟨i.val, hi⟩ x) * wg (ix2 x l))
      * sx (ix2 i 0) * a (ix2 0 l) = lin X W s i (128 * t + l.val) :=
    lin_val X W s i _ _ _ _ _ _ (hg l) hl (fun x => hwg x l) hx (ha l)
  have e2 : (accu (ix2 i l) + ∑ x, lhs (ix2 ⟨i.val, hi⟩ x) * wu (ix2 x l))
      * sx (ix2 i 0) * b (ix2 0 l) = lin X W s i (3456 + (128 * t + l.val)) :=
    lin_val X W s i _ _ _ _ _ _ ((hu l).trans (by congr 1; omega)) hl
      (fun x => (hwu x l).trans (by congr 1; omega)) hx ((hb l).trans (by congr 1; omega))
  unfold hid
  rw [← e1, ← e2]
  pointwise [k0_pay161, k0_pay159, k0_pay160]
  rfl

end Tile

end Cert.Values

end
-- ==== Proof.Tiles.lean ====
/- The kernel's 27 tiles of the gated value, each an instance of the lemmas for one tile; the buffer they fill; and the
   running maximum of their magnitudes, lane by lane. -/
module

public import proofs.«01_k».proof.Proof.Tile

@[expose] public section

noncomputable section

namespace Cert.Values

open Idealize.ShloMosaic Cert.KernelIdeal Cert.KernelIdeal.Gen
open Cert.KernelIdeal.Gen.kernelRun0_A.sl

set_option maxRecDepth 16384

variable (c : Dev nD) (arg7 : Memref sig .tc .vmem S2x8x5120 .bf16) (arg8 : Memref sig .tc .vmem S5120x6912 .fp8e4m3)
  (arg9 : Memref sig .tc .vmem S54x128 .f32)
  (arg10 : Memref sig .tc .vmem S32x5120 .fp8e4m3) (arg11 : Memref sig .tc .vmem S16x6912 .f32)
  (fh0 : HbBuf0 (F := Ideal) c hbM0_0) (fh1 : HbBuf0 (F := Ideal) c hbM0_1) (fh2 : HbBuf0 (F := Ideal) c hbM0_2)

/-- Tile 0: columns 0 to 127. -/
def tile_0 : FVec Ideal S16x128 .f32 :=
  k0_pay42 (r_1 c arg7 fh0) (v245 c arg7 arg8 arg10 arg11 fh0 fh1) (v246 c arg7 arg10 fh0) (v247 c arg8 fh1) (v251 c arg7 arg8 arg10 arg11 fh0 fh1) (v246 c arg7 arg10 fh0) (v253 c arg8 fh1) (v260 c arg9 fh2) (v266 c arg9 fh2)

/-- Tile 0 holds the gated values of its columns. -/
theorem tile_0_val (i : Fin 16) (l : Fin 128) :
    tile_0 c arg7 arg8 arg9 arg10 arg11 fh0 fh1 fh2 (ix2 i l) = hid (xOf c fh0) (wOf c fh1) (sOf c fh2) i (128 * 0 + l.val) :=
  tileLo_val (xOf c fh0) (wOf c fh1) (sOf c fh2) 0 0 3456 27 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_0_0 l) (fun l => sRead c arg9 fh2 inb_S54x128_S1x128_27_0 l) rfl _ _ _ _
    (fun l => aRead c arg11 fh0 fh1 _ (fun _ => 4864) (acc_16 c arg7 arg8 arg10 arg11 fh0 fh1) inb_S16x6912_S16x256_0_0 i l)
    (fun l => aRead c arg11 fh0 fh1 _ (fun _ => 4864) (acc_16 c arg7 arg8 arg10 arg11 fh0 fh1) inb_S16x6912_S16x256_0_3456 i l)
    (fun x l => wRead c arg8 fh1 inb_S5120x6912_S256x256_4864_0 x l) (fun x l => wRead c arg8 fh1 inb_S5120x6912_S256x256_4864_3456 x l) rfl rfl l

/-- Tile 1: columns 128 to 255. -/
def tile_1 : FVec Ideal S16x128 .f32 :=
  k0_pay37 (r_1 c arg7 fh0) (k0_pay30 (v245 c arg7 arg8 arg10 arg11 fh0 fh1) (v246 c arg7 arg10 fh0) (v247 c arg8 fh1)) (k0_pay31 (v251 c arg7 arg8 arg10 arg11 fh0 fh1) (v246 c arg7 arg10 fh0) (v253 c arg8 fh1)) (v286 c arg9 fh2) (v292 c arg9 fh2)

/-- Tile 1 holds the gated values of its columns. -/
theorem tile_1_val (i : Fin 16) (l : Fin 128) :
    tile_1 c arg7 arg8 arg9 arg10 arg11 fh0 fh1 fh2 (ix2 i l) = hid (xOf c fh0) (wOf c fh1) (sOf c fh2) i (128 * 1 + l.val) :=
  tileHi_val (xOf c fh0) (wOf c fh1) (sOf c fh2) 1 0 3456 28 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_1_0 l) (fun l => sRead c arg9 fh2 inb_S54x128_S1x128_28_0 l) rfl _ _ _ _
    (fun l => aRead c arg11 fh0 fh1 _ (fun _ => 4864) (acc_16 c arg7 arg8 arg10 arg11 fh0 fh1) inb_S16x6912_S16x256_0_0 i l)
    (fun l => aRead c arg11 fh0 fh1 _ (fun _ => 4864) (acc_16 c arg7 arg8 arg10 arg11 fh0 fh1) inb_S16x6912_S16x256_0_3456 i l)
    (fun x l => wRead c arg8 fh1 inb_S5120x6912_S256x256_4864_0 x l) (fun x l => wRead c arg8 fh1 inb_S5120x6912_S256x256_4864_3456 x l) rfl rfl l

/-- Tile 2: columns 256 to 383. -/
def tile_2 : FVec Ideal S16x128 .f32 :=
  k0_pay42 (r_1 c arg7 fh0) (v309 c arg7 arg8 arg10 arg11 fh0 fh1) (v246 c arg7 arg10 fh0) (v311 c arg8 fh1) (v315 c arg7 arg8 arg10 arg11 fh0 fh1) (v246 c arg7 arg10 fh0) (v317 c arg8 fh1) (v324 c arg9 fh2) (v330 c arg9 fh2)

/-- Tile 2 holds the gated values of its columns. -/
theorem tile_2_val (i : Fin 16) (l : Fin 128) :
    tile_2 c arg7 arg8 arg9 arg10 arg11 fh0 fh1 fh2 (ix2 i l) = hid (xOf c fh0) (wOf c fh1) (sOf c fh2) i (128 * 2 + l.val) :=
  tileLo_val (xOf c fh0) (wOf c fh1) (sOf c fh2) 2 256 3712 29 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_2_0 l) (fun l => sRead c arg9 fh2 inb_S54x128_S1x128_29_0 l) rfl _ _ _ _
    (fun l => aRead c arg11 fh0 fh1 _ (fun _ => 4864) (acc_16 c arg7 arg8 arg10 arg11 fh0 fh1) inb_S16x6912_S16x256_0_256 i l)
    (fun l => aRead c arg11 fh0 fh1 _ (fun _ => 4864) (acc_16 c arg7 arg8 arg10 arg11 fh0 fh1) inb_S16x6912_S16x256_0_3712 i l)
    (fun x l => wRead c arg8 fh1 inb_S5120x6912_S256x256_4864_256 x l) (fun x l => wRead c arg8 fh1 inb_S5120x6912_S256x256_4864_3712 x l) rfl rfl l

/-- Tile 3: columns 384 to 511. -/
def tile_3 : FVec Ideal S16x128 .f32 :=
  k0_pay37 (r_1 c arg7 fh0) (k0_pay30 (v309 c arg7 arg8 arg10 arg11 fh0 fh1) (v246 c arg7 arg10 fh0) (v311 c arg8 fh1)) (k0_pay31 (v315 c arg7 arg8 arg10 arg11 fh0 fh1) (v246 c arg7 arg10 fh0) (v317 c arg8 fh1)) (v350 c arg9 fh2) (v356 c arg9 fh2)

/-- Tile 3 holds the gated values of its columns. -/
theorem tile_3_val (i : Fin 16) (l : Fin 128) :
    tile_3 c arg7 arg8 arg9 arg10 arg11 fh0 fh1 fh2 (ix2 i l) = hid (xOf c fh0) (wOf c fh1) (sOf c fh2) i (128 * 3 + l.val) :=
  tileHi_val (xOf c fh0) (wOf c fh1) (sOf c fh2) 3 256 3712 30 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_3_0 l) (fun l => sRead c arg9 fh2 inb_S54x128_S1x128_30_0 l) rfl _ _ _ _
    (fun l => aRead c arg11 fh0 fh1 _ (fun _ => 4864) (acc_16 c arg7 arg8 arg10 arg11 fh0 fh1) inb_S16x6912_S16x256_0_256 i l)
    (fun l => aRead c arg11 fh0 fh1 _ (fun _ => 4864) (acc_16 c arg7 arg8 arg10 arg11 fh0 fh1) inb_S16x6912_S16x256_0_3712 i l)
    (fun x l => wRead c arg8 fh1 inb_S5120x6912_S256x256_4864_256 x l) (fun x l => wRead c arg8 fh1 inb_S5120x6912_S256x256_4864_3712 x l) rfl rfl l

/-- Tile 4: columns 512 to 639. -/
def tile_4 : FVec Ideal S16x128 .f32 :=
  k0_pay42 (r_1 c arg7 fh0) (v373 c arg7 arg8 arg10 arg11 fh0 fh1) (v246 c arg7 arg10 fh0) (v375 c arg8 fh1) (v379 c arg7 arg8 arg10 arg11 fh0 fh1) (v246 c arg7 arg10 fh0) (v381 c arg8 fh1) (v388 c arg9 fh2) (v394 c arg9 fh2)

/-- Tile 4 holds the gated values of its columns. -/
theorem tile_4_val (i : Fin 16) (l : Fin 128) :
    tile_4 c arg7 arg8 arg9 arg10 arg11 fh0 fh1 fh2 (ix2 i l) = hid (xOf c fh0) (wOf c fh1) (sOf c fh2) i (128 * 4 + l.val) :=
  tileLo_val (xOf c fh0) (wOf c fh1) (sOf c fh2) 4 512 3968 31 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_4_0 l) (fun l => sRead c arg9 fh2 inb_S54x128_S1x128_31_0 l) rfl _ _ _ _
    (fun l => aRead c arg11 fh0 fh1 _ (fun _ => 4864) (acc_16 c arg7 arg8 arg10 arg11 fh0 fh1) inb_S16x6912_S16x256_0_512 i l)
    (fun l => aRead c arg11 fh0 fh1 _ (fun _ => 4864) (acc_16 c arg7 arg8 arg10 arg11 fh0 fh1) inb_S16x6912_S16x256_0_3968 i l)
    (fun x l => wRead c arg8 fh1 inb_S5120x6912_S256x256_4864_512 x l) (fun x l => wRead c arg8 fh1 inb_S5120x6912_S256x256_4864_3968 x l) rfl rfl l

/-- Tile 5: columns 640 to 767. -/
def tile_5 : FVec Ideal S16x128 .f32 :=
  k0_pay37 (r_1 c arg7 fh0) (k0_pay30 (v373 c arg7 arg8 arg10 arg11 fh0 fh1) (v246 c arg7 arg10 fh0) (v375 c arg8 fh1)) (k0_pay31 (v379 c arg7 arg8 arg10 arg11 fh0 fh1) (v246 c arg7 arg10 fh0) (v381 c arg8 fh1)) (v414 c arg9 fh2) (v420 c arg9 fh2)

/-- Tile 5 holds the gated values of its columns. -/
theorem tile_5_val (i : Fin 16) (l : Fin 128) :
    tile_5 c arg7 arg8 arg9 arg10 arg11 fh0 fh1 fh2 (ix2 i l) = hid (xOf c fh0) (wOf c fh1) (sOf c fh2) i (128 * 5 + l.val) :=
  tileHi_val (xOf c fh0) (wOf c fh1) (sOf c fh2) 5 512 3968 32 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_5_0 l) (fun l => sRead c arg9 fh2 inb_S54x128_S1x128_32_0 l) rfl _ _ _ _
    (fun l => aRead c arg11 fh0 fh1 _ (fun _ => 4864) (acc_16 c arg7 arg8 arg10 arg11 fh0 fh1) inb_S16x6912_S16x256_0_512 i l)
    (fun l => aRead c arg11 fh0 fh1 _ (fun _ => 4864) (acc_16 c arg7 arg8 arg10 arg11 fh0 fh1) inb_S16x6912_S16x256_0_3968 i l)
    (fun x l => wRead c arg8 fh1 inb_S5120x6912_S256x256_4864_512 x l) (fun x l => wRead c arg8 fh1 inb_S5120x6912_S256x256_4864_3968 x l) rfl rfl l

/-- Tile 6: columns 768 to 895. -/
def tile_6 : FVec Ideal S16x128 .f32 :=
  k0_pay42 (r_1 c arg7 fh0) (v437 c arg7 arg8 arg10 arg11 fh0 fh1) (v246 c arg7 arg10 fh0) (v439 c arg8 fh1) (v443 c arg7 arg8 arg10 arg11 fh0 fh1) (v246 c arg7 arg10 fh0) (v445 c arg8 fh1) (v452 c arg9 fh2) (v458 c arg9 fh2)

/-- Tile 6 holds the gated values of its columns. -/
theorem tile_6_val (i : Fin 16) (l : Fin 128) :
    tile_6 c arg7 arg8 arg9 arg10 arg11 fh0 fh1 fh2 (ix2 i l) = hid (xOf c fh0) (wOf c fh1) (sOf c fh2) i (128 * 6 + l.val) :=
  tileLo_val (xOf c fh0) (wOf c fh1) (sOf c fh2) 6 768 4224 33 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_6_0 l) (fun l => sRead c arg9 fh2 inb_S54x128_S1x128_33_0 l) rfl _ _ _ _
    (fun l => aRead c arg11 fh0 fh1 _ (fun _ => 4864) (acc_16 c arg7 arg8 arg10 arg11 fh0 fh1) inb_S16x6912_S16x256_0_768 i l)
    (fun l => aRead c arg11 fh0 fh1 _ (fun _ => 4864) (acc_16 c arg7 arg8 arg10 arg11 fh0 fh1) inb_S16x6912_S16x256_0_4224 i l)
    (fun x l => wRead c arg8 fh1 inb_S5120x6912_S256x256_4864_768 x l) (fun x l => wRead c arg8 fh1 inb_S5120x6912_S256x256_4864_4224 x l) rfl rfl l

/-- Tile 7: columns 896 to 1023. -/
def tile_7 : FVec Ideal S16x128 .f32 :=
  k0_pay37 (r_1 c arg7 fh0) (k0_pay30 (v437 c arg7 arg8 arg10 arg11 fh0 fh1) (v246 c arg7 arg10 fh0) (v439 c arg8 fh1)) (k0_pay31 (v443 c arg7 arg8 arg10 arg11 fh0 fh1) (v246 c arg7 arg10 fh0) (v445 c arg8 fh1)) (v478 c arg9 fh2) (v484 c arg9 fh2)

/-- Tile 7 holds the gated values of its columns. -/
theorem tile_7_val (i : Fin 16) (l : Fin 128) :
    tile_7 c arg7 arg8 arg9 arg10 arg11 fh0 fh1 fh2 (ix2 i l) = hid (xOf c fh0) (wOf c fh1) (sOf c fh2) i (128 * 7 + l.val) :=
  tileHi_val (xOf c fh0) (wOf c fh1) (sOf c fh2) 7 768 4224 34 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_7_0 l) (fun l => sRead c arg9 fh2 inb_S54x128_S1x128_34_0 l) rfl _ _ _ _
    (fun l => aRead c arg11 fh0 fh1 _ (fun _ => 4864) (acc_16 c arg7 arg8 arg10 arg11 fh0 fh1) inb_S16x6912_S16x256_0_768 i l)
    (fun l => aRead c arg11 fh0 fh1 _ (fun _ => 4864) (acc_16 c arg7 arg8 arg10 arg11 fh0 fh1) inb_S16x6912_S16x256_0_4224 i l)
    (fun x l => wRead c arg8 fh1 inb_S5120x6912_S256x256_4864_768 x l) (fun x l => wRead c arg8 fh1 inb_S5120x6912_S256x256_4864_4224 x l) rfl rfl l

/-- Tile 8: columns 1024 to 1151. -/
def tile_8 : FVec Ideal S16x128 .f32 :=
  k0_pay42 (r_1 c arg7 fh0) (v501 c arg7 arg8 arg10 arg11 fh0 fh1) (v246 c arg7 arg10 fh0) (v503 c arg8 fh1) (v507 c arg7 arg8 arg10 arg11 fh0 fh1) (v246 c arg7 arg10 fh0) (v509 c arg8 fh1) (v516 c arg9 fh2) (v522 c arg9 fh2)

/-- Tile 8 holds the gated values of its columns. -/
theorem tile_8_val (i : Fin 16) (l : Fin 128) :
    tile_8 c arg7 arg8 arg9 arg10 arg11 fh0 fh1 fh2 (ix2 i l) = hid (xOf c fh0) (wOf c fh1) (sOf c fh2) i (128 * 8 + l.val) :=
  tileLo_val (xOf c fh0) (wOf c fh1) (sOf c fh2) 8 1024 4480 35 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_8_0 l) (fun l => sRead c arg9 fh2 inb_S54x128_S1x128_35_0 l) rfl _ _ _ _
    (fun l => aRead c arg11 fh0 fh1 _ (fun _ => 4864) (acc_16 c arg7 arg8 arg10 arg11 fh0 fh1) inb_S16x6912_S16x256_0_1024 i l)
    (fun l => aRead c arg11 fh0 fh1 _ (fun _ => 4864) (acc_16 c arg7 arg8 arg10 arg11 fh0 fh1) inb_S16x6912_S16x256_0_4480 i l)
    (fun x l => wRead c arg8 fh1 inb_S5120x6912_S256x256_4864_1024 x l) (fun x l => wRead c arg8 fh1 inb_S5120x6912_S256x256_4864_4480 x l) rfl rfl l

/-- Tile 9: columns 1152 to 1279. -/
def tile_9 : FVec Ideal S16x128 .f32 :=
  k0_pay37 (r_1 c arg7 fh0) (k0_pay30 (v501 c arg7 arg8 arg10 arg11 fh0 fh1) (v246 c arg7 arg10 fh0) (v503 c arg8 fh1)) (k0_pay31 (v507 c arg7 arg8 arg10 arg11 fh0 fh1) (v246 c arg7 arg10 fh0) (v509 c arg8 fh1)) (v542 c arg9 fh2) (v548 c arg9 fh2)

/-- Tile 9 holds the gated values of its columns. -/
theorem tile_9_val (i : Fin 16) (l : Fin 128) :
    tile_9 c arg7 arg8 arg9 arg10 arg11 fh0 fh1 fh2 (ix2 i l) = hid (xOf c fh0) (wOf c fh1) (sOf c fh2) i (128 * 9 + l.val) :=
  tileHi_val (xOf c fh0) (wOf c fh1) (sOf c fh2) 9 1024 4480 36 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_9_0 l) (fun l => sRead c arg9 fh2 inb_S54x128_S1x128_36_0 l) rfl _ _ _ _
    (fun l => aRead c arg11 fh0 fh1 _ (fun _ => 4864) (acc_16 c arg7 arg8 arg10 arg11 fh0 fh1) inb_S16x6912_S16x256_0_1024 i l)
    (fun l => aRead c arg11 fh0 fh1 _ (fun _ => 4864) (acc_16 c arg7 arg8 arg10 arg11 fh0 fh1) inb_S16x6912_S16x256_0_4480 i l)
    (fun x l => wRead c arg8 fh1 inb_S5120x6912_S256x256_4864_1024 x l) (fun x l => wRead c arg8 fh1 inb_S5120x6912_S256x256_4864_4480 x l) rfl rfl l

/-- Tile 10: columns 1280 to 1407. -/
def tile_10 : FVec Ideal S16x128 .f32 :=
  k0_pay42 (r_1 c arg7 fh0) (v565 c arg7 arg8 arg10 arg11 fh0 fh1) (v246 c arg7 arg10 fh0) (v567 c arg8 fh1) (v571 c arg7 arg8 arg10 arg11 fh0 fh1) (v246 c arg7 arg10 fh0) (v573 c arg8 fh1) (v580 c arg9 fh2) (v586 c arg9 fh2)

/-- Tile 10 holds the gated values of its columns. -/
theorem tile_10_val (i : Fin 16) (l : Fin 128) :
    tile_10 c arg7 arg8 arg9 arg10 arg11 fh0 fh1 fh2 (ix2 i l) = hid (xOf c fh0) (wOf c fh1) (sOf c fh2) i (128 * 10 + l.val) :=
  tileLo_val (xOf c fh0) (wOf c fh1) (sOf c fh2) 10 1280 4736 37 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_10_0 l) (fun l => sRead c arg9 fh2 inb_S54x128_S1x128_37_0 l) rfl _ _ _ _
    (fun l => aRead c arg11 fh0 fh1 _ (fun _ => 4864) (acc_16 c arg7 arg8 arg10 arg11 fh0 fh1) inb_S16x6912_S16x256_0_1280 i l)
    (fun l => aRead c arg11 fh0 fh1 _ (fun _ => 4864) (acc_16 c arg7 arg8 arg10 arg11 fh0 fh1) inb_S16x6912_S16x256_0_4736 i l)
    (fun x l => wRead c arg8 fh1 inb_S5120x6912_S256x256_4864_1280 x l) (fun x l => wRead c arg8 fh1 inb_S5120x6912_S256x256_4864_4736 x l) rfl rfl l

/-- Tile 11: columns 1408 to 1535. -/
def tile_11 : FVec Ideal S16x128 .f32 :=
  k0_pay37 (r_1 c arg7 fh0) (k0_pay30 (v565 c arg7 arg8 arg10 arg11 fh0 fh1) (v246 c arg7 arg10 fh0) (v567 c arg8 fh1)) (k0_pay31 (v571 c arg7 arg8 arg10 arg11 fh0 fh1) (v246 c arg7 arg10 fh0) (v573 c arg8 fh1)) (v606 c arg9 fh2) (v612 c arg9 fh2)

/-- Tile 11 holds the gated values of its columns. -/
theorem tile_11_val (i : Fin 16) (l : Fin 128) :
    tile_11 c arg7 arg8 arg9 arg10 arg11 fh0 fh1 fh2 (ix2 i l) = hid (xOf c fh0) (wOf c fh1) (sOf c fh2) i (128 * 11 + l.val) :=
  tileHi_val (xOf c fh0) (wOf c fh1) (sOf c fh2) 11 1280 4736 38 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_11_0 l) (fun l => sRead c arg9 fh2 inb_S54x128_S1x128_38_0 l) rfl _ _ _ _
    (fun l => aRead c arg11 fh0 fh1 _ (fun _ => 4864) (acc_16 c arg7 arg8 arg10 arg11 fh0 fh1) inb_S16x6912_S16x256_0_1280 i l)
    (fun l => aRead c arg11 fh0 fh1 _ (fun _ => 4864) (acc_16 c arg7 arg8 arg10 arg11 fh0 fh1) inb_S16x6912_S16x256_0_4736 i l)
    (fun x l => wRead c arg8 fh1 inb_S5120x6912_S256x256_4864_1280 x l) (fun x l => wRead c arg8 fh1 inb_S5120x6912_S256x256_4864_4736 x l) rfl rfl l

/-- Tile 12: columns 1536 to 1663. -/
def tile_12 : FVec Ideal S16x128 .f32 :=
  k0_pay42 (r_1 c arg7 fh0) (v629 c arg7 arg8 arg10 arg11 fh0 fh1) (v246 c arg7 arg10 fh0) (v631 c arg8 fh1) (v635 c arg7 arg8 arg10 arg11 fh0 fh1) (v246 c arg7 arg10 fh0) (v637 c arg8 fh1) (v644 c arg9 fh2) (v650 c arg9 fh2)

/-- Tile 12 holds the gated values of its columns. -/
theorem tile_12_val (i : Fin 16) (l : Fin 128) :
    tile_12 c arg7 arg8 arg9 arg10 arg11 fh0 fh1 fh2 (ix2 i l) = hid (xOf c fh0) (wOf c fh1) (sOf c fh2) i (128 * 12 + l.val) :=
  tileLo_val (xOf c fh0) (wOf c fh1) (sOf c fh2) 12 1536 4992 39 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_12_0 l) (fun l => sRead c arg9 fh2 inb_S54x128_S1x128_39_0 l) rfl _ _ _ _
    (fun l => aRead c arg11 fh0 fh1 _ (fun _ => 4864) (acc_16 c arg7 arg8 arg10 arg11 fh0 fh1) inb_S16x6912_S16x256_0_1536 i l)
    (fun l => aRead c arg11 fh0 fh1 _ (fun _ => 4864) (acc_16 c arg7 arg8 arg10 arg11 fh0 fh1) inb_S16x6912_S16x256_0_4992 i l)
    (fun x l => wRead c arg8 fh1 inb_S5120x6912_S256x256_4864_1536 x l) (fun x l => wRead c arg8 fh1 inb_S5120x6912_S256x256_4864_4992 x l) rfl rfl l

/-- Tile 13: columns 1664 to 1791. -/
def tile_13 : FVec Ideal S16x128 .f32 :=
  k0_pay37 (r_1 c arg7 fh0) (k0_pay30 (v629 c arg7 arg8 arg10 arg11 fh0 fh1) (v246 c arg7 arg10 fh0) (v631 c arg8 fh1)) (k0_pay31 (v635 c arg7 arg8 arg10 arg11 fh0 fh1) (v246 c arg7 arg10 fh0) (v637 c arg8 fh1)) (v670 c arg9 fh2) (v676 c arg9 fh2)

/-- Tile 13 holds the gated values of its columns. -/
theorem tile_13_val (i : Fin 16) (l : Fin 128) :
    tile_13 c arg7 arg8 arg9 arg10 arg11 fh0 fh1 fh2 (ix2 i l) = hid (xOf c fh0) (wOf c fh1) (sOf c fh2) i (128 * 13 + l.val) :=
  tileHi_val (xOf c fh0) (wOf c fh1) (sOf c fh2) 13 1536 4992 40 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_13_0 l) (fun l => sRead c arg9 fh2 inb_S54x128_S1x128_40_0 l) rfl _ _ _ _
    (fun l => aRead c arg11 fh0 fh1 _ (fun _ => 4864) (acc_16 c arg7 arg8 arg10 arg11 fh0 fh1) inb_S16x6912_S16x256_0_1536 i l)
    (fun l => aRead c arg11 fh0 fh1 _ (fun _ => 4864) (acc_16 c arg7 arg8 arg10 arg11 fh0 fh1) inb_S16x6912_S16x256_0_4992 i l)
    (fun x l => wRead c arg8 fh1 inb_S5120x6912_S256x256_4864_1536 x l) (fun x l => wRead c arg8 fh1 inb_S5120x6912_S256x256_4864_4992 x l) rfl rfl l

/-- Tile 14: columns 1792 to 1919. -/
def tile_14 : FVec Ideal S16x128 .f32 :=
  k0_pay42 (r_1 c arg7 fh0) (v693 c arg7 arg8 arg10 arg11 fh0 fh1) (v246 c arg7 arg10 fh0) (v695 c arg8 fh1) (v699 c arg7 arg8 arg10 arg11 fh0 fh1) (v246 c arg7 arg10 fh0) (v701 c arg8 fh1) (v708 c arg9 fh2) (v714 c arg9 fh2)

/-- Tile 14 holds the gated values of its columns. -/
theorem tile_14_val (i : Fin 16) (l : Fin 128) :
    tile_14 c arg7 arg8 arg9 arg10 arg11 fh0 fh1 fh2 (ix2 i l) = hid (xOf c fh0) (wOf c fh1) (sOf c fh2) i (128 * 14 + l.val) :=
  tileLo_val (xOf c fh0) (wOf c fh1) (sOf c fh2) 14 1792 5248 41 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_14_0 l) (fun l => sRead c arg9 fh2 inb_S54x128_S1x128_41_0 l) rfl _ _ _ _
    (fun l => aRead c arg11 fh0 fh1 _ (fun _ => 4864) (acc_16 c arg7 arg8 arg10 arg11 fh0 fh1) inb_S16x6912_S16x256_0_1792 i l)
    (fun l => aRead c arg11 fh0 fh1 _ (fun _ => 4864) (acc_16 c arg7 arg8 arg10 arg11 fh0 fh1) inb_S16x6912_S16x256_0_5248 i l)
    (fun x l => wRead c arg8 fh1 inb_S5120x6912_S256x256_4864_1792 x l) (fun x l => wRead c arg8 fh1 inb_S5120x6912_S256x256_4864_5248 x l) rfl rfl l

/-- Tile 15: columns 1920 to 2047. -/
def tile_15 : FVec Ideal S16x128 .f32 :=
  k0_pay37 (r_1 c arg7 fh0) (k0_pay30 (v693 c arg7 arg8 arg10 arg11 fh0 fh1) (v246 c arg7 arg10 fh0) (v695 c arg8 fh1)) (k0_pay31 (v699 c arg7 arg8 arg10 arg11 fh0 fh1) (v246 c arg7 arg10 fh0) (v701 c arg8 fh1)) (v734 c arg9 fh2) (v740 c arg9 fh2)

/-- Tile 15 holds the gated values of its columns. -/
theorem tile_15_val (i : Fin 16) (l : Fin 128) :
    tile_15 c arg7 arg8 arg9 arg10 arg11 fh0 fh1 fh2 (ix2 i l) = hid (xOf c fh0) (wOf c fh1) (sOf c fh2) i (128 * 15 + l.val) :=
  tileHi_val (xOf c fh0) (wOf c fh1) (sOf c fh2) 15 1792 5248 42 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_15_0 l) (fun l => sRead c arg9 fh2 inb_S54x128_S1x128_42_0 l) rfl _ _ _ _
    (fun l => aRead c arg11 fh0 fh1 _ (fun _ => 4864) (acc_16 c arg7 arg8 arg10 arg11 fh0 fh1) inb_S16x6912_S16x256_0_1792 i l)
    (fun l => aRead c arg11 fh0 fh1 _ (fun _ => 4864) (acc_16 c arg7 arg8 arg10 arg11 fh0 fh1) inb_S16x6912_S16x256_0_5248 i l)
    (fun x l => wRead c arg8 fh1 inb_S5120x6912_S256x256_4864_1792 x l) (fun x l => wRead c arg8 fh1 inb_S5120x6912_S256x256_4864_5248 x l) rfl rfl l

/-- Tile 16: columns 2048 to 2175. -/
def tile_16 : FVec Ideal S16x128 .f32 :=
  k0_pay42 (r_1 c arg7 fh0) (v757 c arg7 arg8 arg10 arg11 fh0 fh1) (v246 c arg7 arg10 fh0) (v759 c arg8 fh1) (v763 c arg7 arg8 arg10 arg11 fh0 fh1) (v246 c arg7 arg10 fh0) (v765 c arg8 fh1) (v772 c arg9 fh2) (v778 c arg9 fh2)

/-- Tile 16 holds the gated values of its columns. -/
theorem tile_16_val (i : Fin 16) (l : Fin 128) :
    tile_16 c arg7 arg8 arg9 arg10 arg11 fh0 fh1 fh2 (ix2 i l) = hid (xOf c fh0) (wOf c fh1) (sOf c fh2) i (128 * 16 + l.val) :=
  tileLo_val (xOf c fh0) (wOf c fh1) (sOf c fh2) 16 2048 5504 43 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_16_0 l) (fun l => sRead c arg9 fh2 inb_S54x128_S1x128_43_0 l) rfl _ _ _ _
    (fun l => aRead c arg11 fh0 fh1 _ (fun _ => 4864) (acc_16 c arg7 arg8 arg10 arg11 fh0 fh1) inb_S16x6912_S16x256_0_2048 i l)
    (fun l => aRead c arg11 fh0 fh1 _ (fun _ => 4864) (acc_16 c arg7 arg8 arg10 arg11 fh0 fh1) inb_S16x6912_S16x256_0_5504 i l)
    (fun x l => wRead c arg8 fh1 inb_S5120x6912_S256x256_4864_2048 x l) (fun x l => wRead c arg8 fh1 inb_S5120x6912_S256x256_4864_5504 x l) rfl rfl l

/-- Tile 17: columns 2176 to 2303. -/
def tile_17 : FVec Ideal S16x128 .f32 :=
  k0_pay37 (r_1 c arg7 fh0) (k0_pay30 (v757 c arg7 arg8 arg10 arg11 fh0 fh1) (v246 c arg7 arg10 fh0) (v759 c arg8 fh1)) (k0_pay31 (v763 c arg7 arg8 arg10 arg11 fh0 fh1) (v246 c arg7 arg10 fh0) (v765 c arg8 fh1)) (v798 c arg9 fh2) (v804 c arg9 fh2)

/-- Tile 17 holds the gated values of its columns. -/
theorem tile_17_val (i : Fin 16) (l : Fin 128) :
    tile_17 c arg7 arg8 arg9 arg10 arg11 fh0 fh1 fh2 (ix2 i l) = hid (xOf c fh0) (wOf c fh1) (sOf c fh2) i (128 * 17 + l.val) :=
  tileHi_val (xOf c fh0) (wOf c fh1) (sOf c fh2) 17 2048 5504 44 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_17_0 l) (fun l => sRead c arg9 fh2 inb_S54x128_S1x128_44_0 l) rfl _ _ _ _
    (fun l => aRead c arg11 fh0 fh1 _ (fun _ => 4864) (acc_16 c arg7 arg8 arg10 arg11 fh0 fh1) inb_S16x6912_S16x256_0_2048 i l)
    (fun l => aRead c arg11 fh0 fh1 _ (fun _ => 4864) (acc_16 c arg7 arg8 arg10 arg11 fh0 fh1) inb_S16x6912_S16x256_0_5504 i l)
    (fun x l => wRead c arg8 fh1 inb_S5120x6912_S256x256_4864_2048 x l) (fun x l => wRead c arg8 fh1 inb_S5120x6912_S256x256_4864_5504 x l) rfl rfl l

/-- Tile 18: columns 2304 to 2431. -/
def tile_18 : FVec Ideal S16x128 .f32 :=
  k0_pay42 (r_1 c arg7 fh0) (v821 c arg7 arg8 arg10 arg11 fh0 fh1) (v246 c arg7 arg10 fh0) (v823 c arg8 fh1) (v827 c arg7 arg8 arg10 arg11 fh0 fh1) (v246 c arg7 arg10 fh0) (v829 c arg8 fh1) (v836 c arg9 fh2) (v842 c arg9 fh2)

/-- Tile 18 holds the gated values of its columns. -/
theorem tile_18_val (i : Fin 16) (l : Fin 128) :
    tile_18 c arg7 arg8 arg9 arg10 arg11 fh0 fh1 fh2 (ix2 i l) = hid (xOf c fh0) (wOf c fh1) (sOf c fh2) i (128 * 18 + l.val) :=
  tileLo_val (xOf c fh0) (wOf c fh1) (sOf c fh2) 18 2304 5760 45 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_18_0 l) (fun l => sRead c arg9 fh2 inb_S54x128_S1x128_45_0 l) rfl _ _ _ _
    (fun l => aRead c arg11 fh0 fh1 _ (fun _ => 4864) (acc_16 c arg7 arg8 arg10 arg11 fh0 fh1) inb_S16x6912_S16x256_0_2304 i l)
    (fun l => aRead c arg11 fh0 fh1 _ (fun _ => 4864) (acc_16 c arg7 arg8 arg10 arg11 fh0 fh1) inb_S16x6912_S16x256_0_5760 i l)
    (fun x l => wRead c arg8 fh1 inb_S5120x6912_S256x256_4864_2304 x l) (fun x l => wRead c arg8 fh1 inb_S5120x6912_S256x256_4864_5760 x l) rfl rfl l

/-- Tile 19: columns 2432 to 2559. -/
def tile_19 : FVec Ideal S16x128 .f32 :=
  k0_pay37 (r_1 c arg7 fh0) (k0_pay30 (v821 c arg7 arg8 arg10 arg11 fh0 fh1) (v246 c arg7 arg10 fh0) (v823 c arg8 fh1)) (k0_pay31 (v827 c arg7 arg8 arg10 arg11 fh0 fh1) (v246 c arg7 arg10 fh0) (v829 c arg8 fh1)) (v862 c arg9 fh2) (v868 c arg9 fh2)

/-- Tile 19 holds the gated values of its columns. -/
theorem tile_19_val (i : Fin 16) (l : Fin 128) :
    tile_19 c arg7 arg8 arg9 arg10 arg11 fh0 fh1 fh2 (ix2 i l) = hid (xOf c fh0) (wOf c fh1) (sOf c fh2) i (128 * 19 + l.val) :=
  tileHi_val (xOf c fh0) (wOf c fh1) (sOf c fh2) 19 2304 5760 46 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_19_0 l) (fun l => sRead c arg9 fh2 inb_S54x128_S1x128_46_0 l) rfl _ _ _ _
    (fun l => aRead c arg11 fh0 fh1 _ (fun _ => 4864) (acc_16 c arg7 arg8 arg10 arg11 fh0 fh1) inb_S16x6912_S16x256_0_2304 i l)
    (fun l => aRead c arg11 fh0 fh1 _ (fun _ => 4864) (acc_16 c arg7 arg8 arg10 arg11 fh0 fh1) inb_S16x6912_S16x256_0_5760 i l)
    (fun x l => wRead c arg8 fh1 inb_S5120x6912_S256x256_4864_2304 x l) (fun x l => wRead c arg8 fh1 inb_S5120x6912_S256x256_4864_5760 x l) rfl rfl l

/-- Tile 20: columns 2560 to 2687. -/
def tile_20 : FVec Ideal S16x128 .f32 :=
  k0_pay42 (r_1 c arg7 fh0) (v885 c arg7 arg8 arg10 arg11 fh0 fh1) (v246 c arg7 arg10 fh0) (v887 c arg8 fh1) (v891 c arg7 arg8 arg10 arg11 fh0 fh1) (v246 c arg7 arg10 fh0) (v893 c arg8 fh1) (v900 c arg9 fh2) (v906 c arg9 fh2)

/-- Tile 20 holds the gated values of its columns. -/
theorem tile_20_val (i : Fin 16) (l : Fin 128) :
    tile_20 c arg7 arg8 arg9 arg10 arg11 fh0 fh1 fh2 (ix2 i l) = hid (xOf c fh0) (wOf c fh1) (sOf c fh2) i (128 * 20 + l.val) :=
  tileLo_val (xOf c fh0) (wOf c fh1) (sOf c fh2) 20 2560 6016 47 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_20_0 l) (fun l => sRead c arg9 fh2 inb_S54x128_S1x128_47_0 l) rfl _ _ _ _
    (fun l => aRead c arg11 fh0 fh1 _ (fun _ => 4864) (acc_16 c arg7 arg8 arg10 arg11 fh0 fh1) inb_S16x6912_S16x256_0_2560 i l)
    (fun l => aRead c arg11 fh0 fh1 _ (fun _ => 4864) (acc_16 c arg7 arg8 arg10 arg11 fh0 fh1) inb_S16x6912_S16x256_0_6016 i l)
    (fun x l => wRead c arg8 fh1 inb_S5120x6912_S256x256_4864_2560 x l) (fun x l => wRead c arg8 fh1 inb_S5120x6912_S256x256_4864_6016 x l) rfl rfl l

/-- Tile 21: columns 2688 to 2815. -/
def tile_21 : FVec Ideal S16x128 .f32 :=
  k0_pay37 (r_1 c arg7 fh0) (k0_pay30 (v885 c arg7 arg8 arg10 arg11 fh0 fh1) (v246 c arg7 arg10 fh0) (v887 c arg8 fh1)) (k0_pay31 (v891 c arg7 arg8 arg10 arg11 fh0 fh1) (v246 c arg7 arg10 fh0) (v893 c arg8 fh1)) (v926 c arg9 fh2) (v932 c arg9 fh2)

/-- Tile 21 holds the gated values of its columns. -/
theorem tile_21_val (i : Fin 16) (l : Fin 128) :
    tile_21 c arg7 arg8 arg9 arg10 arg11 fh0 fh1 fh2 (ix2 i l) = hid (xOf c fh0) (wOf c fh1) (sOf c fh2) i (128 * 21 + l.val) :=
  tileHi_val (xOf c fh0) (wOf c fh1) (sOf c fh2) 21 2560 6016 48 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_21_0 l) (fun l => sRead c arg9 fh2 inb_S54x128_S1x128_48_0 l) rfl _ _ _ _
    (fun l => aRead c arg11 fh0 fh1 _ (fun _ => 4864) (acc_16 c arg7 arg8 arg10 arg11 fh0 fh1) inb_S16x6912_S16x256_0_2560 i l)
    (fun l => aRead c arg11 fh0 fh1 _ (fun _ => 4864) (acc_16 c arg7 arg8 arg10 arg11 fh0 fh1) inb_S16x6912_S16x256_0_6016 i l)
    (fun x l => wRead c arg8 fh1 inb_S5120x6912_S256x256_4864_2560 x l) (fun x l => wRead c arg8 fh1 inb_S5120x6912_S256x256_4864_6016 x l) rfl rfl l

/-- Tile 22: columns 2816 to 2943. -/
def tile_22 : FVec Ideal S16x128 .f32 :=
  k0_pay42 (r_1 c arg7 fh0) (v949 c arg7 arg8 arg10 arg11 fh0 fh1) (v246 c arg7 arg10 fh0) (v951 c arg8 fh1) (v955 c arg7 arg8 arg10 arg11 fh0 fh1) (v246 c arg7 arg10 fh0) (v957 c arg8 fh1) (v964 c arg9 fh2) (v970 c arg9 fh2)

/-- Tile 22 holds the gated values of its columns. -/
theorem tile_22_val (i : Fin 16) (l : Fin 128) :
    tile_22 c arg7 arg8 arg9 arg10 arg11 fh0 fh1 fh2 (ix2 i l) = hid (xOf c fh0) (wOf c fh1) (sOf c fh2) i (128 * 22 + l.val) :=
  tileLo_val (xOf c fh0) (wOf c fh1) (sOf c fh2) 22 2816 6272 49 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_22_0 l) (fun l => sRead c arg9 fh2 inb_S54x128_S1x128_49_0 l) rfl _ _ _ _
    (fun l => aRead c arg11 fh0 fh1 _ (fun _ => 4864) (acc_16 c arg7 arg8 arg10 arg11 fh0 fh1) inb_S16x6912_S16x256_0_2816 i l)
    (fun l => aRead c arg11 fh0 fh1 _ (fun _ => 4864) (acc_16 c arg7 arg8 arg10 arg11 fh0 fh1) inb_S16x6912_S16x256_0_6272 i l)
    (fun x l => wRead c arg8 fh1 inb_S5120x6912_S256x256_4864_2816 x l) (fun x l => wRead c arg8 fh1 inb_S5120x6912_S256x256_4864_6272 x l) rfl rfl l

/-- Tile 23: columns 2944 to 3071. -/
def tile_23 : FVec Ideal S16x128 .f32 :=
  k0_pay37 (r_1 c arg7 fh0) (k0_pay30 (v949 c arg7 arg8 arg10 arg11 fh0 fh1) (v246 c arg7 arg10 fh0) (v951 c arg8 fh1)) (k0_pay31 (v955 c arg7 arg8 arg10 arg11 fh0 fh1) (v246 c arg7 arg10 fh0) (v957 c arg8 fh1)) (v990 c arg9 fh2) (v996 c arg9 fh2)

/-- Tile 23 holds the gated values of its columns. -/
theorem tile_23_val (i : Fin 16) (l : Fin 128) :
    tile_23 c arg7 arg8 arg9 arg10 arg11 fh0 fh1 fh2 (ix2 i l) = hid (xOf c fh0) (wOf c fh1) (sOf c fh2) i (128 * 23 + l.val) :=
  tileHi_val (xOf c fh0) (wOf c fh1) (sOf c fh2) 23 2816 6272 50 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_23_0 l) (fun l => sRead c arg9 fh2 inb_S54x128_S1x128_50_0 l) rfl _ _ _ _
    (fun l => aRead c arg11 fh0 fh1 _ (fun _ => 4864) (acc_16 c arg7 arg8 arg10 arg11 fh0 fh1) inb_S16x6912_S16x256_0_2816 i l)
    (fun l => aRead c arg11 fh0 fh1 _ (fun _ => 4864) (acc_16 c arg7 arg8 arg10 arg11 fh0 fh1) inb_S16x6912_S16x256_0_6272 i l)
    (fun x l => wRead c arg8 fh1 inb_S5120x6912_S256x256_4864_2816 x l) (fun x l => wRead c arg8 fh1 inb_S5120x6912_S256x256_4864_6272 x l) rfl rfl l

/-- Tile 24: columns 3072 to 3199. -/
def tile_24 : FVec Ideal S16x128 .f32 :=
  k0_pay42 (r_1 c arg7 fh0) (v1013 c arg7 arg8 arg10 arg11 fh0 fh1) (v246 c arg7 arg10 fh0) (v1015 c arg8 fh1) (v1019 c arg7 arg8 arg10 arg11 fh0 fh1) (v246 c arg7 arg10 fh0) (v1021 c arg8 fh1) (v1028 c arg9 fh2) (v1034 c arg9 fh2)

/-- Tile 24 holds the gated values of its columns. -/
theorem tile_24_val (i : Fin 16) (l : Fin 128) :
    tile_24 c arg7 arg8 arg9 arg10 arg11 fh0 fh1 fh2 (ix2 i l) = hid (xOf c fh0) (wOf c fh1) (sOf c fh2) i (128 * 24 + l.val) :=
  tileLo_val (xOf c fh0) (wOf c fh1) (sOf c fh2) 24 3072 6528 51 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_24_0 l) (fun l => sRead c arg9 fh2 inb_S54x128_S1x128_51_0 l) rfl _ _ _ _
    (fun l => aRead c arg11 fh0 fh1 _ (fun _ => 4864) (acc_16 c arg7 arg8 arg10 arg11 fh0 fh1) inb_S16x6912_S16x256_0_3072 i l)
    (fun l => aRead c arg11 fh0 fh1 _ (fun _ => 4864) (acc_16 c arg7 arg8 arg10 arg11 fh0 fh1) inb_S16x6912_S16x256_0_6528 i l)
    (fun x l => wRead c arg8 fh1 inb_S5120x6912_S256x256_4864_3072 x l) (fun x l => wRead c arg8 fh1 inb_S5120x6912_S256x256_4864_6528 x l) rfl rfl l

/-- Tile 25: columns 3200 to 3327. -/
def tile_25 : FVec Ideal S16x128 .f32 :=
  k0_pay37 (r_1 c arg7 fh0) (k0_pay30 (v1013 c arg7 arg8 arg10 arg11 fh0 fh1) (v246 c arg7 arg10 fh0) (v1015 c arg8 fh1)) (k0_pay31 (v1019 c arg7 arg8 arg10 arg11 fh0 fh1) (v246 c arg7 arg10 fh0) (v1021 c arg8 fh1)) (v1054 c arg9 fh2) (v1060 c arg9 fh2)

/-- Tile 25 holds the gated values of its columns. -/
theorem tile_25_val (i : Fin 16) (l : Fin 128) :
    tile_25 c arg7 arg8 arg9 arg10 arg11 fh0 fh1 fh2 (ix2 i l) = hid (xOf c fh0) (wOf c fh1) (sOf c fh2) i (128 * 25 + l.val) :=
  tileHi_val (xOf c fh0) (wOf c fh1) (sOf c fh2) 25 3072 6528 52 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_25_0 l) (fun l => sRead c arg9 fh2 inb_S54x128_S1x128_52_0 l) rfl _ _ _ _
    (fun l => aRead c arg11 fh0 fh1 _ (fun _ => 4864) (acc_16 c arg7 arg8 arg10 arg11 fh0 fh1) inb_S16x6912_S16x256_0_3072 i l)
    (fun l => aRead c arg11 fh0 fh1 _ (fun _ => 4864) (acc_16 c arg7 arg8 arg10 arg11 fh0 fh1) inb_S16x6912_S16x256_0_6528 i l)
    (fun x l => wRead c arg8 fh1 inb_S5120x6912_S256x256_4864_3072 x l) (fun x l => wRead c arg8 fh1 inb_S5120x6912_S256x256_4864_6528 x l) rfl rfl l

/-- Tile 26: columns 3328 to 3455. -/
def tile_26 : FVec Ideal S16x128 .f32 :=
  k0_pay161 (r_1 c arg7 fh0) (k0_pay159 (v1083 c arg7 arg8 arg10 arg11 fh0 fh1) (v246 c arg7 arg10 fh0) (v1085 c arg8 fh1)) (k0_pay160 (r_1 c arg7 fh0) (v1077 c arg7 arg8 arg10 arg11 fh0 fh1) (v246 c arg7 arg10 fh0) (v1079 c arg8 fh1)) (v1091 c arg9 fh2) (v1096 c arg9 fh2)

/-- Tile 26 holds the gated values of its columns. -/
theorem tile_26_val (i : Fin 16) (l : Fin 128) :
    tile_26 c arg7 arg8 arg9 arg10 arg11 fh0 fh1 fh2 (ix2 i l) = hid (xOf c fh0) (wOf c fh1) (sOf c fh2) i (128 * 26 + l.val) :=
  tileLast_val (xOf c fh0) (wOf c fh1) (sOf c fh2) 26 6784 53 i (Nat.lt_trans i.isLt (by decide)) _ _ _ _ (r_1_val c arg7 fh0 i)
    (fun x => lRead c arg7 arg10 fh0 inb_S32x5120_S32x256_0_4864 _ i.isLt x)
    (fun l => sRead c arg9 fh2 inb_S54x128_S1x128_26_0 l) (fun l => sRead c arg9 fh2 inb_S54x128_S1x128_53_0 l) rfl _ _ _ _
    (fun l => aRead c arg11 fh0 fh1 _ (fun _ => 4864) (acc_16 c arg7 arg8 arg10 arg11 fh0 fh1) inb_S16x6912_S16x128_0_3328 i l)
    (fun l => aRead c arg11 fh0 fh1 _ (fun _ => 4864) (acc_16 c arg7 arg8 arg10 arg11 fh0 fh1) inb_S16x6912_S16x128_0_6784 i l)
    (fun x l => wRead c arg8 fh1 inb_S5120x6912_S256x128_4864_3328 x l) (fun x l => wRead c arg8 fh1 inb_S5120x6912_S256x128_4864_6784 x l) rfl l

/-- The running maximum starts at zero. -/
theorem zeros (i : Fin 16) (l : Fin 128) : k0_pay29 (F := Ideal) (ix2 i l) = 0 := by
  pointwise [k0_pay29]

/-- The running maximum after 2 tiles. -/
theorem r_10_val (i : Fin 16) (l : Fin 128) : r_10 (F := Ideal) c arg7 arg8 arg9 arg10 arg11 fh0 fh1 fh2 (ix2 i l)
    = lanemax (hid (xOf c fh0) (wOf c fh1) (sOf c fh2) i) l.val 2 := by
  show max (max (k0_pay29 (F := Ideal) (ix2 i l)) (FloatOps.absf (F := Ideal) (φ := .f32) (tile_0 c arg7 arg8 arg9 arg10 arg11 fh0 fh1 fh2 (ix2 i l)))) (FloatOps.absf (F := Ideal) (φ := .f32) (tile_1 c arg7 arg8 arg9 arg10 arg11 fh0 fh1 fh2 (ix2 i l))) = _
  rw [zeros, tile_0_val, tile_1_val]
  rfl

/-- The running maximum after 3 tiles. -/
theorem r_12_val (i : Fin 16) (l : Fin 128) : r_12 (F := Ideal) c arg7 arg8 arg9 arg10 arg11 fh0 fh1 fh2 (ix2 i l)
    = lanemax (hid (xOf c fh0) (wOf c fh1) (sOf c fh2) i) l.val 3 := by
  show max ((r_10 c arg7 arg8 arg9 arg10 arg11 fh0 fh1 fh2) (ix2 i l)) (FloatOps.absf (F := Ideal) (φ := .f32) (tile_2 c arg7 arg8 arg9 arg10 arg11 fh0 fh1 fh2 (ix2 i l))) = _
  rw [r_10_val, tile_2_val]
  rfl

/-- The running maximum after 4 tiles. -/
theorem r_14_val (i : Fin 16) (l : Fin 128) : r_14 (F := Ideal) c arg7 arg8 arg9 arg10 arg11 fh0 fh1 fh2 (ix2 i l)
    = lanemax (hid (xOf c fh0) (wOf c fh1) (sOf c fh2) i) l.val 4 := by
  show max ((r_12 c arg7 arg8 arg9 arg10 arg11 fh0 fh1 fh2) (ix2 i l)) (FloatOps.absf (F := Ideal) (φ := .f32) (tile_3 c arg7 arg8 arg9 arg10 arg11 fh0 fh1 fh2 (ix2 i l))) = _
  rw [r_12_val, tile_3_val]
  rfl

/-- The running maximum after 5 tiles. -/
theorem r_19_val (i : Fin 16) (l : Fin 128) : r_19 (F := Ideal) c arg7 arg8 arg9 arg10 arg11 fh0 fh1 fh2 (ix2 i l)
    = lanemax (hid (xOf c fh0) (wOf c fh1) (sOf c fh2) i) l.val 5 := by
  show max ((r_14 c arg7 arg8 arg9 arg10 arg11 fh0 fh1 fh2) (ix2 i l)) (FloatOps.absf (F := Ideal) (φ := .f32) (tile_4 c arg7 arg8 arg9 arg10 arg11 fh0 fh1 fh2 (ix2 i l))) = _
  rw [r_14_val, tile_4_val]
  rfl

/-- The running maximum after 6 tiles. -/
theorem r_23_val (i : Fin 16) (l : Fin 128) : r_23 (F := Ideal) c arg7 arg8 arg9 arg10 arg11 fh0 fh1 fh2 (ix2 i l)
    = lanemax (hid (xOf c fh0) (wOf c fh1) (sOf c fh2) i) l.val 6 := by
  show max ((r_19 c arg7 arg8 arg9 arg10 arg11 fh0 fh1 fh2) (ix2 i l)) (FloatOps.absf (F := Ideal) (φ := .f32) (tile_5 c arg7 arg8 arg9 arg10 arg11 fh0 fh1 fh2 (ix2 i l))) = _
  rw [r_19_val, tile_5_val]
  rfl

/-- The running maximum after 8 tiles. -/
theorem r_29_val (i : Fin 16) (l : Fin 128) : r_29 (F := Ideal) c arg7 arg8 arg9 arg10 arg11 fh0 fh1 fh2 (ix2 i l)
    = lanemax (hid (xOf c fh0) (wOf c fh1) (sOf c fh2) i) l.val 8 := by
  show max (max ((r_23 c arg7 arg8 arg9 arg10 arg11 fh0 fh1 fh2) (ix2 i l)) (FloatOps.absf (F := Ideal) (φ := .f32) (tile_6 c arg7 arg8 arg9 arg10 arg11 fh0 fh1 fh2 (ix2 i l)))) (FloatOps.absf (F := Ideal) (φ := .f32) (tile_7 c arg7 arg8 arg9 arg10 arg11 fh0 fh1 fh2 (ix2 i l))) = _
  rw [r_23_val, tile_6_val, tile_7_val]
  rfl

/-- The running maximum after 9 tiles. -/
theorem r_31_val (i : Fin 16) (l : Fin 128) : r_31 (F := Ideal) c arg7 arg8 arg9 arg10 arg11 fh0 fh1 fh2 (ix2 i l)
    = lanemax (hid (xOf c fh0) (wOf c fh1) (sOf c fh2) i) l.val 9 := by
  show max ((r_29 c arg7 arg8 arg9 arg10 arg11 fh0 fh1 fh2) (ix2 i l)) (FloatOps.absf (F := Ideal) (φ := .f32) (tile_8 c arg7 arg8 arg9 arg10 arg11 fh0 fh1 fh2 (ix2 i l))) = _
  rw [r_29_val, tile_8_val]
  rfl

/-- The running maximum after 10 tiles. -/
theorem r_35_val (i : Fin 16) (l : Fin 128) : r_35 (F := Ideal) c arg7 arg8 arg9 arg10 arg11 fh0 fh1 fh2 (ix2 i l)
    = lanemax (hid (xOf c fh0) (wOf c fh1) (sOf c fh2) i) l.val 10 := by
  show max ((r_31 c arg7 arg8 arg9 arg10 arg11 fh0 fh1 fh2) (ix2 i l)) (FloatOps.absf (F := Ideal) (φ := .f32) (tile_9 c arg7 arg8 arg9 arg10 arg11 fh0 fh1 fh2 (ix2 i l))) = _
  rw [r_31_val, tile_9_val]
  rfl

/-- The running maximum after 11 tiles. -/
theorem r_39_val (i : Fin 16) (l : Fin 128) : r_39 (F := Ideal) c arg7 arg8 arg9 arg10 arg11 fh0 fh1 fh2 (ix2 i l)
    = lanemax (hid (xOf c fh0) (wOf c fh1) (sOf c fh2) i) l.val 11 := by
  show max ((r_35 c arg7 arg8 arg9 arg10 arg11 fh0 fh1 fh2) (ix2 i l)) (FloatOps.absf (F := Ideal) (φ := .f32) (tile_10 c arg7 arg8 arg9 arg10 arg11 fh0 fh1 fh2 (ix2 i l))) = _
  rw [r_35_val, tile_10_val]
  rfl

/-- The running maximum after 12 tiles. -/
theorem r_41_val (i : Fin 16) (l : Fin 128) : r_41 (F := Ideal) c arg7 arg8 arg9 arg10 arg11 fh0 fh1 fh2 (ix2 i l)
    = lanemax (hid (xOf c fh0) (wOf c fh1) (sOf c fh2) i) l.val 12 := by
  show max ((r_39 c arg7 arg8 arg9 arg10 arg11 fh0 fh1 fh2) (ix2 i l)) (FloatOps.absf (F := Ideal) (φ := .f32) (tile_11 c arg7 arg8 arg9 arg10 arg11 fh0 fh1 fh2 (ix2 i l))) = _
  rw [r_39_val, tile_11_val]
  rfl

/-- The running maximum after 14 tiles. -/
theorem r_45_val (i : Fin 16) (l : Fin 128) : r_45 (F := Ideal) c arg7 arg8 arg9 arg10 arg11 fh0 fh1 fh2 (ix2 i l)
    = lanemax (hid (xOf c fh0) (wOf c fh1) (sOf c fh2) i) l.val 14 := by
  show max (max ((r_41 c arg7 arg8 arg9 arg10 arg11 fh0 fh1 fh2) (ix2 i l)) (FloatOps.absf (F := Ideal) (φ := .f32) (tile_12 c arg7 arg8 arg9 arg10 arg11 fh0 fh1 fh2 (ix2 i l)))) (FloatOps.absf (F := Ideal) (φ := .f32) (tile_13 c arg7 arg8 arg9 arg10 arg11 fh0 fh1 fh2 (ix2 i l))) = _
  rw [r_41_val, tile_12_val, tile_13_val]
  rfl

/-- The running maximum after 15 tiles. -/
theorem r_47_val (i : Fin 16) (l : Fin 128) : r_47 (F := Ideal) c arg7 arg8 arg9 arg10 arg11 fh0 fh1 fh2 (ix2 i l)
    = lanemax (hid (xOf c fh0) (wOf c fh1) (sOf c fh2) i) l.val 15 := by
  show max ((r_45 c arg7 arg8 arg9 arg10 arg11 fh0 fh1 fh2) (ix2 i l)) (FloatOps.absf (F := Ideal) (φ := .f32) (tile_14 c arg7 arg8 arg9 arg10 arg11 fh0 fh1 fh2 (ix2 i l))) = _
  rw [r_45_val, tile_14_val]
  rfl

/-- The running maximum after 16 tiles. -/
theorem r_50_val (i : Fin 16) (l : Fin 128) : r_50 (F := Ideal) c arg7 arg8 arg9 arg10 arg11 fh0 fh1 fh2 (ix2 i l)
    = lanemax (hid (xOf c fh0) (wOf c fh1) (sOf c fh2) i) l.val 16 := by
  show max ((r_47 c arg7 arg8 arg9 arg10 arg11 fh0 fh1 fh2) (ix2 i l)) (FloatOps.absf (F := Ideal) (φ := .f32) (tile_15 c arg7 arg8 arg9 arg10 arg11 fh0 fh1 fh2 (ix2 i l))) = _
  rw [r_47_val, tile_15_val]
  rfl

/-- The running maximum after 18 tiles. -/
theorem r_55_val (i : Fin 16) (l : Fin 128) : r_55 (F := Ideal) c arg7 arg8 arg9 arg10 arg11 fh0 fh1 fh2 (ix2 i l)
    = lanemax (hid (xOf c fh0) (wOf c fh1) (sOf c fh2) i) l.val 18 := by
  show max (max ((r_50 c arg7 arg8 arg9 arg10 arg11 fh0 fh1 fh2) (ix2 i l)) (FloatOps.absf (F := Ideal) (φ := .f32) (tile_16 c arg7 arg8 arg9 arg10 arg11 fh0 fh1 fh2 (ix2 i l)))) (FloatOps.absf (F := Ideal) (φ := .f32) (tile_17 c arg7 arg8 arg9 arg10 arg11 fh0 fh1 fh2 (ix2 i l))) = _
  rw [r_50_val, tile_16_val, tile_17_val]
  rfl

/-- The running maximum after 19 tiles. -/
theorem r_58_val (i : Fin 16) (l : Fin 128) : r_58 (F := Ideal) c arg7 arg8 arg9 arg10 arg11 fh0 fh1 fh2 (ix2 i l)
    = lanemax (hid (xOf c fh0) (wOf c fh1) (sOf c fh2) i) l.val 19 := by
  show max ((r_55 c arg7 arg8 arg9 arg10 arg11 fh0 fh1 fh2) (ix2 i l)) (FloatOps.absf (F := Ideal) (φ := .f32) (tile_18 c arg7 arg8 arg9 arg10 arg11 fh0 fh1 fh2 (ix2 i l))) = _
  rw [r_55_val, tile_18_val]
  rfl

/-- The running maximum after 20 tiles. -/
theorem r_59_val (i : Fin 16) (l : Fin 128) : r_59 (F := Ideal) c arg7 arg8 arg9 arg10 arg11 fh0 fh1 fh2 (ix2 i l)
    = lanemax (hid (xOf c fh0) (wOf c fh1) (sOf c fh2) i) l.val 20 := by
  show max ((r_58 c arg7 arg8 arg9 arg10 arg11 fh0 fh1 fh2) (ix2 i l)) (FloatOps.absf (F := Ideal) (φ := .f32) (tile_19 c arg7 arg8 arg9 arg10 arg11 fh0 fh1 fh2 (ix2 i l))) = _
  rw [r_58_val, tile_19_val]
  rfl

/-- The running maximum after 21 tiles. -/
theorem r_62_val (i : Fin 16) (l : Fin 128) : r_62 (F := Ideal) c arg7 arg8 arg9 arg10 arg11 fh0 fh1 fh2 (ix2 i l)
    = lanemax (hid (xOf c fh0) (wOf c fh1) (sOf c fh2) i) l.val 21 := by
  show max ((r_59 c arg7 arg8 arg9 arg10 arg11 fh0 fh1 fh2) (ix2 i l)) (FloatOps.absf (F := Ideal) (φ := .f32) (tile_20 c arg7 arg8 arg9 arg10 arg11 fh0 fh1 fh2 (ix2 i l))) = _
  rw [r_59_val, tile_20_val]
  rfl

/-- The running maximum after 22 tiles. -/
theorem r_66_val (i : Fin 16) (l : Fin 128) : r_66 (F := Ideal) c arg7 arg8 arg9 arg10 arg11 fh0 fh1 fh2 (ix2 i l)
    = lanemax (hid (xOf c fh0) (wOf c fh1) (sOf c fh2) i) l.val 22 := by
  show max ((r_62 c arg7 arg8 arg9 arg10 arg11 fh0 fh1 fh2) (ix2 i l)) (FloatOps.absf (F := Ideal) (φ := .f32) (tile_21 c arg7 arg8 arg9 arg10 arg11 fh0 fh1 fh2 (ix2 i l))) = _
  rw [r_62_val, tile_21_val]
  rfl

/-- The running maximum after 24 tiles. -/
theorem r_72_val (i : Fin 16) (l : Fin 128) : r_72 (F := Ideal) c arg7 arg8 arg9 arg10 arg11 fh0 fh1 fh2 (ix2 i l)
    = lanemax (hid (xOf c fh0) (wOf c fh1) (sOf c fh2) i) l.val 24 := by
  show max (max ((r_66 c arg7 arg8 arg9 arg10 arg11 fh0 fh1 fh2) (ix2 i l)) (FloatOps.absf (F := Ideal) (φ := .f32) (tile_22 c arg7 arg8 arg9 arg10 arg11 fh0 fh1 fh2 (ix2 i l)))) (FloatOps.absf (F := Ideal) (φ := .f32) (tile_23 c arg7 arg8 arg9 arg10 arg11 fh0 fh1 fh2 (ix2 i l))) = _
  rw [r_66_val, tile_22_val, tile_23_val]
  rfl

/-- The running maximum after 25 tiles. -/
theorem r_74_val (i : Fin 16) (l : Fin 128) : r_74 (F := Ideal) c arg7 arg8 arg9 arg10 arg11 fh0 fh1 fh2 (ix2 i l)
    = lanemax (hid (xOf c fh0) (wOf c fh1) (sOf c fh2) i) l.val 25 := by
  show max ((r_72 c arg7 arg8 arg9 arg10 arg11 fh0 fh1 fh2) (ix2 i l)) (FloatOps.absf (F := Ideal) (φ := .f32) (tile_24 c arg7 arg8 arg9 arg10 arg11 fh0 fh1 fh2 (ix2 i l))) = _
  rw [r_72_val, tile_24_val]
  rfl

/-- The running maximum after 26 tiles. -/
theorem r_76_val (i : Fin 16) (l : Fin 128) : r_76 (F := Ideal) c arg7 arg8 arg9 arg10 arg11 fh0 fh1 fh2 (ix2 i l)
    = lanemax (hid (xOf c fh0) (wOf c fh1) (sOf c fh2) i) l.val 26 := by
  show max ((r_74 c arg7 arg8 arg9 arg10 arg11 fh0 fh1 fh2) (ix2 i l)) (FloatOps.absf (F := Ideal) (φ := .f32) (tile_25 c arg7 arg8 arg9 arg10 arg11 fh0 fh1 fh2 (ix2 i l))) = _
  rw [r_74_val, tile_25_val]
  rfl

/-- A cast between equal shapes changes nothing. -/
theorem shapeCast_tile (v : FVec Ideal S16x128 .f32) (i : Fin 16) (l : Fin 128) :
    shapeCast S16x128 v shapeCasts_S16x128_S16x128 (ix2 i l) = v (ix2 i l) := by
  pointwise

/-- The buffer of gated values after all 27 stores. -/
theorem hidden (i : Fin 16) (j : Fin 3456) : View.canon (HS5_27 (F := Ideal) c arg7 arg8 arg9 arg10 arg11 fh0 fh1 fh2) (ix2 i j)
    = hid (xOf c fh0) (wOf c fh1) (sOf c fh2) i j.val := by
  unfold HS5_27
  refine canon_cons2 inb_S16x3456_S16x128_0_3328 _ _ i j _ (fun a l h1 h2 => ?_) fun n26 => ?_
  · obtain rfl : i = a := Fin.ext (by omega)
    rw [h2]
    exact (shapeCast_tile (tile_26 c arg7 arg8 arg9 arg10 arg11 fh0 fh1 fh2) i l).trans (tile_26_val c arg7 arg8 arg9 arg10 arg11 fh0 fh1 fh2 i l)
  refine canon_cons2 inb_S16x3456_S16x128_0_3200 _ _ i j _ (fun a l h1 h2 => ?_) fun n25 => ?_
  · obtain rfl : i = a := Fin.ext (by omega)
    rw [h2]
    exact (shapeCast_tile (tile_25 c arg7 arg8 arg9 arg10 arg11 fh0 fh1 fh2) i l).trans (tile_25_val c arg7 arg8 arg9 arg10 arg11 fh0 fh1 fh2 i l)
  refine canon_cons2 inb_S16x3456_S16x128_0_3072 _ _ i j _ (fun a l h1 h2 => ?_) fun n24 => ?_
  · obtain rfl : i = a := Fin.ext (by omega)
    rw [h2]
    exact (shapeCast_tile (tile_24 c arg7 arg8 arg9 arg10 arg11 fh0 fh1 fh2) i l).trans (tile_24_val c arg7 arg8 arg9 arg10 arg11 fh0 fh1 fh2 i l)
  refine canon_cons2 inb_S16x3456_S16x128_0_2944 _ _ i j _ (fun a l h1 h2 => ?_) fun n23 => ?_
  · obtain rfl : i = a := Fin.ext (by omega)
    rw [h2]
    exact (shapeCast_tile (tile_23 c arg7 arg8 arg9 arg10 arg11 fh0 fh1 fh2) i l).trans (tile_23_val c arg7 arg8 arg9 arg10 arg11 fh0 fh1 fh2 i l)
  refine canon_cons2 inb_S16x3456_S16x128_0_2816 _ _ i j _ (fun a l h1 h2 => ?_) fun n22 => ?_
  · obtain rfl : i = a := Fin.ext (by omega)
    rw [h2]
    exact (shapeCast_tile (tile_22 c arg7 arg8 arg9 arg10 arg11 fh0 fh1 fh2) i l).trans (tile_22_val c arg7 arg8 arg9 arg10 arg11 fh0 fh1 fh2 i l)
  refine canon_cons2 inb_S16x3456_S16x128_0_2688 _ _ i j _ (fun a l h1 h2 => ?_) fun n21 => ?_
  · obtain rfl : i = a := Fin.ext (by omega)
    rw [h2]
    exact (shapeCast_tile (tile_21 c arg7 arg8 arg9 arg10 arg11 fh0 fh1 fh2) i l).trans (tile_21_val c arg7 arg8 arg9 arg10 arg11 fh0 fh1 fh2 i l)
  refine canon_cons2 inb_S16x3456_S16x128_0_2560 _ _ i j _ (fun a l h1 h2 => ?_) fun n20 => ?_
  · obtain rfl : i = a := Fin.ext (by omega)
    rw [h2]
    exact (shapeCast_tile (tile_20 c arg7 arg8 arg9 arg10 arg11 fh0 fh1 fh2) i l).trans (tile_20_val c arg7 arg8 arg9 arg10 arg11 fh0 fh1 fh2 i l)
  refine canon_cons2 inb_S16x3456_S16x128_0_2432 _ _ i j _ (fun a l h1 h2 => ?_) fun n19 => ?_
  · obtain rfl : i = a := Fin.ext (by omega)
    rw [h2]
    exact (shapeCast_tile (tile_19 c arg7 arg8 arg9 arg10 arg11 fh0 fh1 fh2) i l).trans (tile_19_val c arg7 arg8 arg9 arg10 arg11 fh0 fh1 fh2 i l)
  refine canon_cons2 inb_S16x3456_S16x128_0_2304 _ _ i j _ (fun a l h1 h2 => ?_) fun n18 => ?_
  · obtain rfl : i = a := Fin.ext (by omega)
    rw [h2]
    exact (shapeCast_tile (tile_18 c arg7 arg8 arg9 arg10 arg11 fh0 fh1 fh2) i l).trans (tile_18_val c arg7 arg8 arg9 arg10 arg11 fh0 fh1 fh2 i l)
  refine canon_cons2 inb_S16x3456_S16x128_0_2176 _ _ i j _ (fun a l h1 h2 => ?_) fun n17 => ?_
  · obtain rfl : i = a := Fin.ext (by omega)
    rw [h2]
    exact (shapeCast_tile (tile_17 c arg7 arg8 arg9 arg10 arg11 fh0 fh1 fh2) i l).trans (tile_17_val c arg7 arg8 arg9 arg10 arg11 fh0 fh1 fh2 i l)
  refine canon_cons2 inb_S16x3456_S16x128_0_2048 _ _ i j _ (fun a l h1 h2 => ?_) fun n16 => ?_
  · obtain rfl : i = a := Fin.ext (by omega)
    rw [h2]
    exact (shapeCast_tile (tile_16 c arg7 arg8 arg9 arg10 arg11 fh0 fh1 fh2) i l).trans (tile_16_val c arg7 arg8 arg9 arg10 arg11 fh0 fh1 fh2 i l)
  refine canon_cons2 inb_S16x3456_S16x128_0_1920 _ _ i j _ (fun a l h1 h2 => ?_) fun n15 => ?_
  · obtain rfl : i = a := Fin.ext (by omega)
    rw [h2]
    exact (shapeCast_tile (tile_15 c arg7 arg8 arg9 arg10 arg11 fh0 fh1 fh2) i l).trans (tile_15_val c arg7 arg8 arg9 arg10 arg11 fh0 fh1 fh2 i l)
  refine canon_cons2 inb_S16x3456_S16x128_0_1792 _ _ i j _ (fun a l h1 h2 => ?_) fun n14 => ?_
  · obtain rfl : i = a := Fin.ext (by omega)
    rw [h2]
    exact (shapeCast_tile (tile_14 c arg7 arg8 arg9 arg10 arg11 fh0 fh1 fh2) i l).trans (tile_14_val c arg7 arg8 arg9 arg10 arg11 fh0 fh1 fh2 i l)
  refine canon_cons2 inb_S16x3456_S16x128_0_1664 _ _ i j _ (fun a l h1 h2 => ?_) fun n13 => ?_
  · obtain rfl : i = a := Fin.ext (by omega)
    rw [h2]
    exact (shapeCast_tile (tile_13 c arg7 arg8 arg9 arg10 arg11 fh0 fh1 fh2) i l).trans (tile_13_val c arg7 arg8 arg9 arg10 arg11 fh0 fh1 fh2 i l)
  refine canon_cons2 inb_S16x3456_S16x128_0_1536 _ _ i j _ (fun a l h1 h2 => ?_) fun n12 => ?_
  · obtain rfl : i = a := Fin.ext (by omega)
    rw [h2]
    exact (shapeCast_tile (tile_12 c arg7 arg8 arg9 arg10 arg11 fh0 fh1 fh2) i l).trans (tile_12_val c arg7 arg8 arg9 arg10 arg11 fh0 fh1 fh2 i l)
  refine canon_cons2 inb_S16x3456_S16x128_0_1408 _ _ i j _ (fun a l h1 h2 => ?_) fun n11 => ?_
  · obtain rfl : i = a := Fin.ext (by omega)
    rw [h2]
    exact (shapeCast_tile (tile_11 c arg7 arg8 arg9 arg10 arg11 fh0 fh1 fh2) i l).trans (tile_11_val c arg7 arg8 arg9 arg10 arg11 fh0 fh1 fh2 i l)
  refine canon_cons2 inb_S16x3456_S16x128_0_1280 _ _ i j _ (fun a l h1 h2 => ?_) fun n10 => ?_
  · obtain rfl : i = a := Fin.ext (by omega)
    rw [h2]
    exact (shapeCast_tile (tile_10 c arg7 arg8 arg9 arg10 arg11 fh0 fh1 fh2) i l).trans (tile_10_val c arg7 arg8 arg9 arg10 arg11 fh0 fh1 fh2 i l)
  refine canon_cons2 inb_S16x3456_S16x128_0_1152 _ _ i j _ (fun a l h1 h2 => ?_) fun n9 => ?_
  · obtain rfl : i = a := Fin.ext (by omega)
    rw [h2]
    exact (shapeCast_tile (tile_9 c arg7 arg8 arg9 arg10 arg11 fh0 fh1 fh2) i l).trans (tile_9_val c arg7 arg8 arg9 arg10 arg11 fh0 fh1 fh2 i l)
  refine canon_cons2 inb_S16x3456_S16x128_0_1024 _ _ i j _ (fun a l h1 h2 => ?_) fun n8 => ?_
  · obtain rfl : i = a := Fin.ext (by omega)
    rw [h2]
    exact (shapeCast_tile (tile_8 c arg7 arg8 arg9 arg10 arg11 fh0 fh1 fh2) i l).trans (tile_8_val c arg7 arg8 arg9 arg10 arg11 fh0 fh1 fh2 i l)
  refine canon_cons2 inb_S16x3456_S16x128_0_896 _ _ i j _ (fun a l h1 h2 => ?_) fun n7 => ?_
  · obtain rfl : i = a := Fin.ext (by omega)
    rw [h2]
    exact (shapeCast_tile (tile_7 c arg7 arg8 arg9 arg10 arg11 fh0 fh1 fh2) i l).trans (tile_7_val c arg7 arg8 arg9 arg10 arg11 fh0 fh1 fh2 i l)
  refine canon_cons2 inb_S16x3456_S16x128_0_768 _ _ i j _ (fun a l h1 h2 => ?_) fun n6 => ?_
  · obtain rfl : i = a := Fin.ext (by omega)
    rw [h2]
    exact (shapeCast_tile (tile_6 c arg7 arg8 arg9 arg10 arg11 fh0 fh1 fh2) i l).trans (tile_6_val c arg7 arg8 arg9 arg10 arg11 fh0 fh1 fh2 i l)
  refine canon_cons2 inb_S16x3456_S16x128_0_640 _ _ i j _ (fun a l h1 h2 => ?_) fun n5 => ?_
  · obtain rfl : i = a := Fin.ext (by omega)
    rw [h2]
    exact (shapeCast_tile (tile_5 c arg7 arg8 arg9 arg10 arg11 fh0 fh1 fh2) i l).trans (tile_5_val c arg7 arg8 arg9 arg10 arg11 fh0 fh1 fh2 i l)
  refine canon_cons2 inb_S16x3456_S16x128_0_512 _ _ i j _ (fun a l h1 h2 => ?_) fun n4 => ?_
  · obtain rfl : i = a := Fin.ext (by omega)
    rw [h2]
    exact (shapeCast_tile (tile_4 c arg7 arg8 arg9 arg10 arg11 fh0 fh1 fh2) i l).trans (tile_4_val c arg7 arg8 arg9 arg10 arg11 fh0 fh1 fh2 i l)
  refine canon_cons2 inb_S16x3456_S16x128_0_384 _ _ i j _ (fun a l h1 h2 => ?_) fun n3 => ?_
  · obtain rfl : i = a := Fin.ext (by omega)
    rw [h2]
    exact (shapeCast_tile (tile_3 c arg7 arg8 arg9 arg10 arg11 fh0 fh1 fh2) i l).trans (tile_3_val c arg7 arg8 arg9 arg10 arg11 fh0 fh1 fh2 i l)
  refine canon_cons2 inb_S16x3456_S16x128_0_256 _ _ i j _ (fun a l h1 h2 => ?_) fun n2 => ?_
  · obtain rfl : i = a := Fin.ext (by omega)
    rw [h2]
    exact (shapeCast_tile (tile_2 c arg7 arg8 arg9 arg10 arg11 fh0 fh1 fh2) i l).trans (tile_2_val c arg7 arg8 arg9 arg10 arg11 fh0 fh1 fh2 i l)
  refine canon_cons2 inb_S16x3456_S16x128_0_128 _ _ i j _ (fun a l h1 h2 => ?_) fun n1 => ?_
  · obtain rfl : i = a := Fin.ext (by omega)
    rw [h2]
    exact (shapeCast_tile (tile_1 c arg7 arg8 arg9 arg10 arg11 fh0 fh1 fh2) i l).trans (tile_1_val c arg7 arg8 arg9 arg10 arg11 fh0 fh1 fh2 i l)
  refine canon_cons2 inb_S16x3456_S16x128_0_0 _ _ i j _ (fun a l h1 h2 => ?_) fun n0 => ?_
  · obtain rfl : i = a := Fin.ext (by omega)
    rw [h2]
    exact (shapeCast_tile (tile_0 c arg7 arg8 arg9 arg10 arg11 fh0 fh1 fh2) i l).trans (tile_0_val c arg7 arg8 arg9 arg10 arg11 fh0 fh1 fh2 i l)
  · exfalso
    have := i.isLt
    have := j.isLt
    omega

end Cert.Values

end
-- ==== Proof.Out.lean ====
/- What the kernel stores in its four results, read at an index. -/
module

public import proofs.«01_k».proof.Proof.Tiles

@[expose] public section

noncomputable section

namespace Cert.Values

open Idealize.ShloMosaic Cert.KernelIdeal Cert.KernelIdeal.Gen
open Cert.KernelIdeal.Gen.kernelRun0_A.sl

set_option maxRecDepth 16384

section Scale

variable (sx : FVec Ideal S16x1 .f32) (mx up gate : FVec Ideal S16x128 .f32) (a b : Vec Ideal S1x128 .f32) (i : Fin 16)

/-- The largest magnitude of a row, from the lanes' running maxima and the last tile. -/
theorem rowmax_val : k0_pay163 sx mx up gate a b (ix2 i 0)
    = Finset.fold max (FloatOps.ofBits (F := Ideal) .f32 4286578688#32) (fun l : Fin 128 => max (mx (ix2 i l))
        (FloatOps.absf (F := Ideal) (φ := .f32) (k0_pay161 sx up gate a b (ix2 i l)))) Finset.univ := by
  pointwise [k0_pay163]

/-- The scale of a row of gated values. -/
theorem hscale_val : k0_pay169 (k0_pay163 sx mx up gate a b) (k0_pay166 sx mx up gate a b) (k0_pay167 sx mx up gate a b) (ix2 i 0)
    = upScale (k0_pay163 sx mx up gate a b (ix2 i 0)) := by
  pointwise [k0_pay169, k0_pay168, k0_pay167, k0_pay166, k0_pay165, k0_pay164]
  rfl

/-- Its inverse. -/
theorem hinv_val : k0_pay170 (k0_pay163 sx mx up gate a b) (k0_pay166 sx mx up gate a b) (k0_pay167 sx mx up gate a b) (ix2 i 0)
    = dnScale (k0_pay163 sx mx up gate a b (ix2 i 0)) := by
  pointwise [k0_pay170, k0_pay168, k0_pay167, k0_pay166, k0_pay165, k0_pay164]
  rfl

end Scale

variable (c : Dev nD) (arg7 : Memref sig .tc .vmem S2x8x5120 .bf16) (arg8 : Memref sig .tc .vmem S5120x6912 .fp8e4m3)
  (arg9 : Memref sig .tc .vmem S54x128 .f32)
  (arg10 : Memref sig .tc .vmem S32x5120 .fp8e4m3) (arg11 : Memref sig .tc .vmem S16x6912 .f32)
  (arg12 : Memref sig .tc .vmem S16x3456 .f32)
  (fh0 : HbBuf0 (F := Ideal) c hbM0_0) (fh1 : HbBuf0 (F := Ideal) c hbM0_1) (fh2 : HbBuf0 (F := Ideal) c hbM0_2)

/-- The largest magnitude of a row of gated values. -/
theorem r_79_val (i : Fin 16) : r_79 (F := Ideal) c arg7 arg8 arg9 arg10 arg11 fh0 fh1 fh2 (ix2 i 0) = amax 3456 (hid (xOf c fh0) (wOf c fh1) (sOf c fh2) i) := by
  rw [← amax_lanes]
  unfold r_79
  rw [rowmax_val]
  refine congrArg (fun f => Finset.fold max _ f Finset.univ) (funext fun l => ?_)
  rw [r_76_val]
  show max _ (FloatOps.absf (F := Ideal) (φ := .f32) (tile_26 c arg7 arg8 arg9 arg10 arg11 fh0 fh1 fh2 (ix2 i l))) = _
  rw [tile_26_val]
  rfl

/-- The scale of the gated values, as a column. -/
theorem r_82_val (i : Fin 16) : r_82 (F := Ideal) c arg7 arg8 arg9 arg10 arg11 fh0 fh1 fh2 (ix2 i 0) = upScale (amax 3456 (hid (xOf c fh0) (wOf c fh1) (sOf c fh2) i)) := by
  rw [← r_79_val c arg7 arg8 arg9 arg10 arg11]
  exact hscale_val _ _ _ _ _ _ i

/-- Its inverse. -/
theorem r_83_val (i : Fin 16) : r_83 (F := Ideal) c arg7 arg8 arg9 arg10 arg11 fh0 fh1 fh2 (ix2 i 0) = dnScale (amax 3456 (hid (xOf c fh0) (wOf c fh1) (sOf c fh2) i)) := by
  rw [← r_79_val c arg7 arg8 arg9 arg10 arg11]
  exact hinv_val _ _ _ _ _ _ i

/-- The gated values as the last step loads them. -/
theorem v1153_val (i : Fin 16) (j : Fin 3456) :
    v1153 (F := Ideal) c arg7 arg8 arg9 arg10 arg11 arg12 fh0 fh1 fh2 (ix2 i j) = hid (xOf c fh0) (wOf c fh1) (sOf c fh2) i j.val := by
  refine (readCov2 arg12.view _ inb_S16x3456_S16x3456_0_0 i j (by omega) (by omega)).trans ?_
  rw [← hidden c arg7 arg8 arg9 arg10 arg11 fh0 fh1 fh2 i j]
  congr 2 <;> apply Fin.ext <;> simp

/-- What is stored in the first result. -/
theorem hs_val (i : Fin 16) : k0_pay2 (r_82 (F := Ideal) c arg7 arg8 arg9 arg10 arg11 fh0 fh1 fh2) (ix2 0 i) = upScale (amax 3456 (hid (xOf c fh0) (wOf c fh1) (sOf c fh2) i)) :=
  (row_of_col' _ i).trans (r_82_val c arg7 arg8 arg9 arg10 arg11 fh0 fh1 fh2 i)

/-- What is stored in the second. -/
theorem hc_val (i : Fin 16) (j : Fin 3456) :
    k0_pay1 (r_83 (F := Ideal) c arg7 arg8 arg9 arg10 arg11 fh0 fh1 fh2) (v1153 c arg7 arg8 arg9 arg10 arg11 arg12 fh0 fh1 fh2) (ix2 i j)
      = hcode (xOf c fh0) (wOf c fh1) (sOf c fh2) i j.val := by
  unfold hcode
  rw [← r_83_val c arg7 arg8 arg9 arg10 arg11, ← v1153_val c arg7 arg8 arg9 arg10 arg11 arg12]
  pointwise [k0_pay1]
  rfl

/-- What is stored in the third. -/
theorem xc_val (i : Fin 16) (k : Fin 5120) :
    k0_pay8 (r_2 (F := Ideal) c arg7 fh0) (FloatOps.ofBits (F := Ideal) .f32 3286237184#32) (ix2 i k) = code (xOf c fh0) i k.val :=
  codes _ _ (r_val c arg7 fh0) i k

/-- What is stored in the fourth. -/
theorem xs_val (i : Fin 16) : k0_pay9 (r_1 (F := Ideal) c arg7 fh0) (ix2 0 i) = upScale (amax 5120 (xOf c fh0 i)) :=
  (row_of_col _ i).trans (r_1_val c arg7 fh0 i)

end Cert.Values

end
-- ==== Proof.Args.lean ====
/- The model's three arguments, as functions of row and column numbers, from the arrays the programs are given. -/
module

public import proofs.«01_k».proof.Proof.Model

@[expose] public section

noncomputable section

namespace Cert.Values

open Idealize.ShloMosaic

/-- The activations of the 16 tokens. -/
def xArg (x : Vec Ideal ⟨3, ![16, 1, 5120]⟩ .bf16) (i : Fin 16) (k : Nat) : EReal :=
  if h : k < 5120 then x (ix3 i 0 ⟨k, h⟩) else 0

/-- The weights' codes. -/
def wArg (w : Vec Ideal ⟨2, ![5120, 6912]⟩ .fp8e4m3) (k j : Nat) : EReal :=
  if h : k < 5120 ∧ j < 6912 then w (ix2 ⟨k, h.1⟩ ⟨j, h.2⟩) else 0

/-- The weights' column scales. -/
def sArg (s : Vec Ideal ⟨1, ![6912]⟩ .f32) (j : Nat) : EReal := if h : j < 6912 then s (ix1 ⟨j, h⟩) else 0

variable (x : Vec Ideal ⟨3, ![16, 1, 5120]⟩ .bf16) (w : Vec Ideal ⟨2, ![5120, 6912]⟩ .fp8e4m3) (s : Vec Ideal ⟨1, ![6912]⟩ .f32)

/-- The four results, as functions of the arguments: the scales of the gated values, -/
def hsOut : Vec Ideal ⟨2, ![1, 16]⟩ .f32 := fun y => upScale (amax 3456 (hid (xArg x) (wArg w) (sArg s) (y 1)))

/-- their codes, -/
def hcOut : Vec Ideal ⟨2, ![16, 3456]⟩ .fp8e4m3 := fun y => hcode (xArg x) (wArg w) (sArg s) (y 0) (y 1).val

/-- the codes of the activations, -/
def xcOut : Vec Ideal ⟨2, ![16, 5120]⟩ .fp8e4m3 := fun y => code (xArg x) (y 0) (y 1).val

/-- and their scales. -/
def xsOut : Vec Ideal ⟨2, ![1, 16]⟩ .f32 := fun y => upScale (amax 5120 (xArg x (y 1)))

/-- Every index of a two-dimensional shape is a pair. -/
theorem eq_ix2 {A B : Nat} (y : (⟨2, ![A, B]⟩ : Shape).Idx) : y = ix2 (y 0) (y 1) := by
  funext a
  refine Fin.cases rfl (fun b => Fin.cases rfl (fun z => z.elim0) b) a

/-- Two arrays of one row are equal when they agree along it. -/
theorem ext_row {A : Nat} {f g : (⟨2, ![1, A]⟩ : Shape).Idx → EReal} (h : ∀ i, f (ix2 0 i) = g (ix2 0 i)) : f = g := by
  funext y
  have e : y = ix2 (0 : Fin 1) (y 1) := by
    funext a
    refine Fin.cases (Subsingleton.elim (α := Fin 1) _ _) (fun b => Fin.cases rfl (fun z => z.elim0) b) a
  rw [e]
  exact h _

/-- Two matrices are equal when they agree at every pair. -/
theorem ext_mat {A B : Nat} {f g : (⟨2, ![A, B]⟩ : Shape).Idx → EReal} (h : ∀ i j, f (ix2 i j) = g (ix2 i j)) : f = g := by
  funext y
  rw [eq_ix2 y]
  exact h _ _

end Cert.Values

end
-- ==== Proof.KernelValue.lean ====
/- The kernel's four result arrays after the run, as functions of its arguments. -/
module

public import proofs.«01_k».proof.Proof.Out
public import proofs.«01_k».proof.Proof.Args

@[expose] public section

noncomputable section

namespace Cert.Values

open Idealize.ShloMosaic Idealize.ShloMosaic.TcCoe Cert.KernelIdeal Cert.KernelIdeal.Gen
open Cert.KernelIdeal.Gen.kernelRun0_A.sl
open Idealize.ShloMosaic.Pipeline (Dat)

set_option maxRecDepth 16384

variable (m : (ℓ : Loc nD τ sig) → Buf (Elt Ideal) ℓ) (c : Dev nD)

/-! ## What the kernel is given: two of the arguments laid out anew -/

/-- The activations as the kernel is handed them: the first argument reshaped. -/
theorem V_v0 : V m c main_v0 = shapeCast S2x8x5120 (m ((c : Thread nD τ).loc main_arg0)) shapeCasts_S16x1x5120_S2x8x5120 := by
  dsimp only [V, hostOps0, StableHlo.after_cons, StableHlo.after_nil]
  rw [StableHlo.reshape_result_ne (r := main_v0) (h := by decide), StableHlo.reshape_result]
  rfl

/-- The column scales as the kernel is handed them: the third argument reshaped. -/
theorem V_v1 : V m c main_v1 = shapeCast S54x128 (m ((c : Thread nD τ).loc main_arg2)) shapeCasts_S6912_S54x128 := by
  dsimp only [V, hostOps0, StableHlo.after_cons, StableHlo.after_nil]
  rw [StableHlo.reshape_result, StableHlo.reshape_result_ne (r := main_arg2) (h := by decide)]
  rfl

/-- The activations: 2 groups of 8 rows are the 16 tokens in order. -/
theorem xOf_eq : xOf c (V m c main_v0) = xArg (m ((c : Thread nD τ).loc main_arg0)) := by
  funext i k
  unfold xOf xArg
  split
  · rename_i h
    rw [V_v0]
    have key (v : Vec Ideal S16x1x5120 .bf16) (a : Fin 2) (b : Fin 8) (i' : Fin 16) (k' : Fin 5120) (hi : i'.val = 8 * a.val + b.val) :
        shapeCast S2x8x5120 v shapeCasts_S16x1x5120_S2x8x5120 (ix3 a b k') = v (ix3 i' 0 k') := by
      pointwise
      rw [show (⟨a.val * 8 + b.val, by omega⟩ : Fin 16) = i' from Fin.ext (by simp; omega)]
    exact key _ _ _ i _ (by simp; omega)
  · rfl

/-- The weight codes are handed over as they are. -/
theorem wOf_eq : wOf c (V m c main_arg1) = wArg (m ((c : Thread nD τ).loc main_arg1)) := by
  rw [V_main_arg1]
  rfl

/-- The column scales: 54 rows of 128. -/
theorem sOf_eq : sOf c (V m c main_v1) = sArg (m ((c : Thread nD τ).loc main_arg2)) := by
  funext j
  unfold sOf sArg
  split
  · rename_i h
    rw [V_v1]
    have key (v : Vec Ideal S6912 .f32) (a : Fin 54) (b : Fin 128) (j' : Fin 6912) (hj : j'.val = 128 * a.val + b.val) :
        shapeCast S54x128 v shapeCasts_S6912_S54x128 (ix2 a b) = v (ix1 j') := by
      pointwise
      rw [show (⟨a.val * 128 + b.val, by omega⟩ : Fin 6912) = j' from Fin.ext (by simp; omega)]
    exact key _ _ _ _ (by simp; omega)
  · rfl

/-! ## What the kernel leaves -/

/-- The one grid point. -/
def t₀ : Fin cfg0.N := ⟨0, by decide⟩

/-- Two zero offsets. -/
theorem zero2 : (![0, 0] : Fin 2 → Nat) = fun _ => 0 := funext fun a => by fin_cases a <;> rfl

section Stores

variable (arg3 : Memref sig .tc .vmem S1x16 .f32) (harg3 : arg3.IsWhole) (arg4 : Memref sig .tc .vmem S16x3456 .fp8e4m3) (harg4 : arg4.IsWhole)
  (arg5 : Memref sig .tc .vmem S16x5120 .fp8e4m3) (harg5 : arg5.IsWhole) (arg6 : Memref sig .tc .vmem S1x16 .f32) (harg6 : arg6.IsWhole)
  (arg7 : Memref sig .tc .vmem S2x8x5120 .bf16) (harg7 : arg7.IsWhole) (arg8 : Memref sig .tc .vmem S5120x6912 .fp8e4m3) (harg8 : arg8.IsWhole)
  (arg9 : Memref sig .tc .vmem S54x128 .f32) (harg9 : arg9.IsWhole) (arg10 : Memref sig .tc .vmem S32x5120 .fp8e4m3) (harg10 : arg10.IsWhole)
  (arg11 : Memref sig .tc .vmem S16x6912 .f32) (harg11 : arg11.IsWhole) (arg12 : Memref sig .tc .vmem S16x3456 .f32) (harg12 : arg12.IsWhole)
  (fh0 : HbBuf0 (F := Ideal) c hbM0_0) (fh1 : HbBuf0 (F := Ideal) c hbM0_1) (fh2 : HbBuf0 (F := Ideal) c hbM0_2)

/-- Result 1's one store. -/
theorem stored0 : out0_A_0 (F := Ideal) c arg3 harg3 arg4 harg4 arg5 harg5 arg6 harg6 arg7 harg7 arg8 harg8 arg9 harg9 arg10 harg10 arg11 harg11 arg12 harg12 fh0 fh1 fh2
    = k0_pay2 (r_82 c arg7 arg8 arg9 arg10 arg11 fh0 fh1 fh2) := by
  unfold out0_A_0
  rw [View.read_writes_junk_eq_canon]
  have e : (kernelRun0_A (F := Ideal) c arg3 harg3 arg4 harg4 arg5 harg5 arg6 harg6 arg7 harg7 arg8 harg8 arg9 harg9 arg10 harg10 arg11 harg11 arg12 harg12 fh0 fh1 fh2).1
      = [⟨Rect.unit ![0, 0] S1x16.size inb_S1x16_S1x16_0_0, k0_pay2 (r_82 c arg7 arg8 arg9 arg10 arg11 fh0 fh1 fh2)⟩] := rfl
  rw [e, View.canon_unit_zero zero2]

/-- Result 2's one store. -/
theorem stored1 : out0_A_1 (F := Ideal) c arg3 harg3 arg4 harg4 arg5 harg5 arg6 harg6 arg7 harg7 arg8 harg8 arg9 harg9 arg10 harg10 arg11 harg11 arg12 harg12 fh0 fh1 fh2
    = k0_pay1 (r_83 c arg7 arg8 arg9 arg10 arg11 fh0 fh1 fh2) (v1153 c arg7 arg8 arg9 arg10 arg11 arg12 fh0 fh1 fh2) := by
  unfold out0_A_1
  rw [View.read_writes_junk_eq_canon]
  have e : (kernelRun0_A (F := Ideal) c arg3 harg3 arg4 harg4 arg5 harg5 arg6 harg6 arg7 harg7 arg8 harg8 arg9 harg9 arg10 harg10 arg11 harg11 arg12 harg12 fh0 fh1 fh2).2.1
      = [⟨Rect.unit ![0, 0] S16x3456.size inb_S16x3456_S16x3456_0_0, k0_pay1 (r_83 c arg7 arg8 arg9 arg10 arg11 fh0 fh1 fh2) (v1153 c arg7 arg8 arg9 arg10 arg11 arg12 fh0 fh1 fh2)⟩] := rfl
  rw [e, View.canon_unit_zero zero2]

/-- Result 3's one store. -/
theorem stored2 : out0_A_2 (F := Ideal) c arg3 harg3 arg4 harg4 arg5 harg5 arg6 harg6 arg7 harg7 arg8 harg8 arg9 harg9 arg10 harg10 arg11 harg11 arg12 harg12 fh0 fh1 fh2
    = k0_pay8 (r_2 c arg7 fh0) (FloatOps.ofBits (F := Ideal) .f32 3286237184#32) := by
  unfold out0_A_2
  rw [View.read_writes_junk_eq_canon]
  have e : (kernelRun0_A (F := Ideal) c arg3 harg3 arg4 harg4 arg5 harg5 arg6 harg6 arg7 harg7 arg8 harg8 arg9 harg9 arg10 harg10 arg11 harg11 arg12 harg12 fh0 fh1 fh2).2.2.1
      = [⟨Rect.unit ![0, 0] S16x5120.size inb_S16x5120_S16x5120_0_0, k0_pay8 (r_2 c arg7 fh0) (FloatOps.ofBits (F := Ideal) .f32 3286237184#32)⟩] := rfl
  rw [e, View.canon_unit_zero zero2]

/-- Result 4's one store. -/
theorem stored3 : out0_A_3 (F := Ideal) c arg3 harg3 arg4 harg4 arg5 harg5 arg6 harg6 arg7 harg7 arg8 harg8 arg9 harg9 arg10 harg10 arg11 harg11 arg12 harg12 fh0 fh1 fh2
    = k0_pay9 (r_1 c arg7 fh0) := by
  unfold out0_A_3
  rw [View.read_writes_junk_eq_canon]
  have e : (kernelRun0_A (F := Ideal) c arg3 harg3 arg4 harg4 arg5 harg5 arg6 harg6 arg7 harg7 arg8 harg8 arg9 harg9 arg10 harg10 arg11 harg11 arg12 harg12 fh0 fh1 fh2).2.2.2.1
      = [⟨Rect.unit ![0, 0] S1x16.size inb_S1x16_S1x16_0_0, k0_pay9 (r_1 c arg7 fh0)⟩] := rfl
  rw [e, View.canon_unit_zero zero2]

end Stores

/-- Result 1 after the run. -/
theorem final0 : (dats m 0 c).arrAt 0 cfg0.N = hsOut (m ((c : Thread nD τ).loc main_arg0)) (m ((c : Thread nD τ).loc main_arg1))
    (m ((c : Thread nD τ).loc main_arg2)) := by
  have ho := Value.blocks0 m c t₀ (flush0_0 t₀)
  have hz : (fun a => (win0_0.index t₀) a * main_v2_0.ty.shape.size a) = fun _ => 0 := funext fun a => by fin_cases a <;> decide
  have hr := fun f => Memref.read_access_unit_zero (Elt Ideal) main_v2_0 hz (fun a => by fin_cases a <;> decide) f
  rw [hr, Value.flushed0_A, stored0] at ho
  rw [ho]
  unfold hsOut
  rw [← xOf_eq, ← wOf_eq, ← sOf_eq]
  exact ext_row fun i => hs_val _ _ _ _ _ _ _ _ _ i

/-- Result 2 after the run. -/
theorem final1 : (dats m 0 c).arrAt 1 cfg0.N = hcOut (m ((c : Thread nD τ).loc main_arg0)) (m ((c : Thread nD τ).loc main_arg1))
    (m ((c : Thread nD τ).loc main_arg2)) := by
  have ho := Value.blocks1 m c t₀ (flush0_1 t₀)
  have hz : (fun a => (win0_1.index t₀) a * main_v2_1.ty.shape.size a) = fun _ => 0 := funext fun a => by fin_cases a <;> decide
  have hr := fun f => Memref.read_access_unit_zero (Elt Ideal) main_v2_1 hz (fun a => by fin_cases a <;> decide) f
  rw [hr, Value.flushed1_A, stored1] at ho
  rw [ho]
  unfold hcOut
  rw [← xOf_eq, ← wOf_eq, ← sOf_eq]
  exact ext_mat fun i j => hc_val _ _ _ _ _ _ _ _ _ _ i j

/-- Result 3 after the run. -/
theorem final2 : (dats m 0 c).arrAt 2 cfg0.N = xcOut (m ((c : Thread nD τ).loc main_arg0)) := by
  have ho := Value.blocks2 m c t₀ (flush0_2 t₀)
  have hz : (fun a => (win0_2.index t₀) a * main_v2_2.ty.shape.size a) = fun _ => 0 := funext fun a => by fin_cases a <;> decide
  have hr := fun f => Memref.read_access_unit_zero (Elt Ideal) main_v2_2 hz (fun a => by fin_cases a <;> decide) f
  rw [hr, Value.flushed2_A, stored2] at ho
  rw [ho]
  unfold xcOut
  rw [← xOf_eq]
  exact ext_mat fun i j => xc_val _ _ _ i j

/-- Result 4 after the run. -/
theorem final3 : (dats m 0 c).arrAt 3 cfg0.N = xsOut (m ((c : Thread nD τ).loc main_arg0)) := by
  have ho := Value.blocks3 m c t₀ (flush0_3 t₀)
  have hz : (fun a => (win0_3.index t₀) a * main_v2_3.ty.shape.size a) = fun _ => 0 := funext fun a => by fin_cases a <;> decide
  have hr := fun f => Memref.read_access_unit_zero (Elt Ideal) main_v2_3 hz (fun a => by fin_cases a <;> decide) f
  rw [hr, Value.flushed3_A, stored3] at ho
  rw [ho]
  unfold xsOut
  rw [← xOf_eq]
  exact ext_row fun i => xs_val _ _ _ i

end Cert.Values

end
-- ==== Proof.ReferenceValue.lean ====
/- The reference's four result arrays after the run, as the same functions of its arguments. -/
module

public import proofs.«01_k».proof.Proof.Gen.ReferenceIdeal.Value
public import proofs.«01_k».proof.Proof.Args

@[expose] public section

noncomputable section

namespace Cert.Values.Reference

open Idealize.ShloMosaic Idealize.ShloMosaic.TcCoe Cert.ReferenceIdeal Cert.ReferenceIdeal.Gen
open Idealize.ShloMosaic.Pipeline (Dat)

set_option maxRecDepth 16384

/-! ## The body's values, read at an index -/

section Body

variable (X : Fin 16 → Nat → EReal) (W : Nat → Nat → EReal) (s : Nat → EReal)
  (x0 : Vec Ideal S16x5120 .bf16) (x1 : Vec Ideal S5120x6912 .fp8e4m3) (x2 : Vec Ideal S1x6912 .f32)
  (h0 : ∀ (i : Fin 16) (k : Fin 5120), x0 (ix2 i k) = X i k.val)
include h0

/-- The largest magnitude of a row of activations. -/
theorem amax_row (i : Fin 16) : Finset.fold max (FloatOps.ofBits (F := Ideal) .f32 4286578688#32)
    (fun x : Fin 5120 => FloatOps.absf (F := Ideal) (φ := .f32) (x0 (ix2 i x))) Finset.univ = amax 5120 (X i) := by
  unfold amax
  simp only [h0]

/-- The exponent of a row of activations. -/
theorem exponent (i : Fin 16) : k0_pay5 x0 (ix2 i 0) = expReal (amax 5120 (X i)) := by
  rw [← amax_row X x0 h0 i]
  pointwise [k0_pay5, k0_pay4]
  rfl

/-- The scale of a row of activations. -/
theorem scale (i : Fin 16) : k0_pay7 x0 (ix2 i 0) = upScale (amax 5120 (X i)) := by
  have h := exponent X x0 h0 i
  unfold upScale
  rw [scale_agree, ← h]
  pointwise [k0_pay7]
  rfl

/-- The codes of the activations. -/
theorem codes (i : Fin 16) (k : Fin 5120) : k0_pay6 x0 (ix2 i k) = code X i k.val := by
  have h := exponent X x0 h0 i
  unfold code dnScale
  rw [inverse_agree, ← h, ← h0 i k]
  pointwise [k0_pay6, k0_pay4]
  rfl

variable (h1 : ∀ (k : Fin 5120) (j : Fin 6912), x1 (ix2 k j) = W k.val j.val) (h2 : ∀ j : Fin 6912, x2 (ix2 0 j) = s j.val)
include h1 h2

/-- A scaled entry of the product. -/
theorem lin_val (i : Fin 16) (j : Fin 6912) :
    (∑ x : Fin 5120, k0_pay6 x0 (ix2 i x) * x1 (ix2 x j)) * k0_pay7 x0 (ix2 i 0) * x2 (ix2 0 j) = lin X W s i j.val := by
  unfold lin part
  rw [scale X x0 h0, h2, Finset.sum_range]
  simp only [codes X x0 h0, h1]

/-- A gated value. -/
theorem gated_val (i : Fin 16) (j : Fin 3456) :
    k0_pay8 (k0_pay6 x0) (k0_pay7 x0) x1 (constant S16x6912 .f32 0x00000000#32) x2 (ix2 i j) = hid X W s i j.val := by
  have e1 := lin_val X W s x0 x1 x2 h0 h1 h2 i ⟨j.val, by omega⟩
  have e2 := lin_val X W s x0 x1 x2 h0 h1 h2 i ⟨3456 + j.val, by omega⟩
  unfold hid gated
  rw [← e1, ← e2, zero_sub]
  pointwise [k0_pay8]
  rfl

/-- The exponent of a row of gated values. -/
theorem hexponent (i : Fin 16) :
    k0_pay9 (k0_pay6 x0) (k0_pay7 x0) x1 (constant S16x6912 .f32 0x00000000#32) x2 (ix2 i 0) = expReal (amax 3456 (hid X W s i)) := by
  have e : Finset.fold max (FloatOps.ofBits (F := Ideal) .f32 4286578688#32)
      (fun j : Fin 3456 => FloatOps.absf (F := Ideal) (φ := .f32)
        (k0_pay8 (k0_pay6 x0) (k0_pay7 x0) x1 (constant S16x6912 .f32 0x00000000#32) x2 (ix2 i j))) Finset.univ
      = amax 3456 (hid X W s i) := by
    unfold amax
    simp only [gated_val X W s x0 x1 x2 h0 h1 h2]
  rw [← e]
  pointwise [k0_pay9]
  rfl

/-- What is stored in the first result. -/
theorem hs_val (i : Fin 16) :
    k0_pay2 (k0_pay9 (k0_pay6 x0) (k0_pay7 x0) x1 (constant S16x6912 .f32 0x00000000#32) x2) (ix2 0 i)
      = upScale (amax 3456 (hid X W s i)) := by
  have h := hexponent X W s x0 x1 x2 h0 h1 h2 i
  unfold upScale
  rw [scale_agree, ← h]
  pointwise [k0_pay2]
  rfl

/-- What is stored in the second. -/
theorem hc_val (i : Fin 16) (j : Fin 3456) :
    k0_pay1 (k0_pay10 (k0_pay6 x0) (k0_pay7 x0) x1 (constant S16x6912 .f32 0x00000000#32) x2) (Scalar.ofBits .f32 0x43E00000#32)
      (k0_pay11 (F := Ideal)) (ix2 i j) = hcode X W s i j.val := by
  have h := hexponent X W s x0 x1 x2 h0 h1 h2 i
  have e := gated_val X W s x0 x1 x2 h0 h1 h2 i j
  unfold hcode dnScale
  rw [inverse_agree, ← h, ← e]
  pointwise [k0_pay1, k0_pay10, k0_pay11]
  rfl

omit h1 h2 in
/-- What is stored in the fourth. -/
theorem xs_val (i : Fin 16) : k0_pay3 (k0_pay7 x0) (ix2 0 i) = upScale (amax 5120 (X i)) := by
  rw [← scale X x0 h0 i]
  pointwise [k0_pay3]

end Body

/-! ## What the body is given: two of the arguments laid out anew -/

variable (m : (ℓ : Loc nD τ sig) → Buf (Elt Ideal) ℓ) (c : Dev nD)

/-- The activations as the body is handed them: the first argument reshaped. -/
theorem V_v0 : V m c main_v0 = shapeCast S16x5120 (m ((c : Thread nD τ).loc main_arg0)) shapeCasts_S16x1x5120_S16x5120 := by
  dsimp only [V, hostOps0, StableHlo.after_cons, StableHlo.after_nil]
  rw [StableHlo.reshape_result_ne (r := main_v0) (h := by decide), StableHlo.reshape_result]
  rfl

/-- The column scales as the body is handed them: the third argument reshaped. -/
theorem V_v1 : V m c main_v1 = shapeCast S1x6912 (m ((c : Thread nD τ).loc main_arg2)) shapeCasts_S6912_S1x6912 := by
  dsimp only [V, hostOps0, StableHlo.after_cons, StableHlo.after_nil]
  rw [StableHlo.reshape_result, StableHlo.reshape_result_ne (r := main_arg2) (h := by decide)]
  rfl

/-- The one grid point. -/
def t₀ : Fin cfg0.N := ⟨0, by decide⟩

/-- An activation the body is handed. -/
theorem x_at (i : Fin 16) (k : Fin 5120) : V m c main_v0 (ix2 i k) = xArg (m ((c : Thread nD τ).loc main_arg0)) i k.val := by
  rw [V_v0]
  unfold xArg
  rw [dif_pos k.isLt]
  have key (v : Vec Ideal S16x1x5120 .bf16) :
      shapeCast S16x5120 v shapeCasts_S16x1x5120_S16x5120 (ix2 i k) = v (ix3 i 0 k) := by
    pointwise
  exact key _

/-- A weight code the body is handed. -/
theorem w_at (k : Fin 5120) (j : Fin 6912) : V m c main_arg1 (ix2 k j) = wArg (m ((c : Thread nD τ).loc main_arg1)) k.val j.val := by
  rw [V_main_arg1]
  unfold wArg
  rw [dif_pos ⟨k.isLt, j.isLt⟩]

/-- A column scale the body is handed. -/
theorem s_at (j : Fin 6912) : V m c main_v1 (ix2 0 j) = sArg (m ((c : Thread nD τ).loc main_arg2)) j.val := by
  rw [V_v1]
  unfold sArg
  rw [dif_pos j.isLt]
  have key (v : Vec Ideal S6912 .f32) : shapeCast S1x6912 v shapeCasts_S6912_S1x6912 (ix2 0 j) = v (ix1 j) := by
    pointwise
  exact key _

/-- The body's operand 1 is the whole array. -/
theorem block0 : iblk m c 0 t₀ = V m c main_v0 := by
  have hz : (fun a => (win0_0.index t₀) a * main_v0.ty.shape.size a) = fun _ => 0 := funext fun a => by fin_cases a <;> decide
  exact Memref.read_access_unit_zero (Elt Ideal) main_v0 hz (fun a => by fin_cases a <;> decide) _

/-- The body's operand 2 is the whole array. -/
theorem block1 : iblk m c 1 t₀ = V m c main_arg1 := by
  have hz : (fun a => (win0_1.index t₀) a * main_arg1.ty.shape.size a) = fun _ => 0 := funext fun a => by fin_cases a <;> decide
  exact Memref.read_access_unit_zero (Elt Ideal) main_arg1 hz (fun a => by fin_cases a <;> decide) _

/-- The body's operand 3 is the whole array. -/
theorem block2 : iblk m c 2 t₀ = V m c main_v1 := by
  have hz : (fun a => (win0_2.index t₀) a * main_v1.ty.shape.size a) = fun _ => 0 := funext fun a => by fin_cases a <;> decide
  exact Memref.read_access_unit_zero (Elt Ideal) main_v1 hz (fun a => by fin_cases a <;> decide) _

/-! ## What the reference leaves -/

/-- Two zero offsets. -/
theorem zero2 : (![0, 0] : Fin 2 → Nat) = fun _ => 0 := funext fun a => by fin_cases a <;> rfl

/-- Result 1 after the run. -/
theorem final0 : (dats m 0 c).arrAt 3 cfg0.N = hsOut (m ((c : Thread nD τ).loc main_arg0)) (m ((c : Thread nD τ).loc main_arg1))
    (m ((c : Thread nD τ).loc main_arg2)) := by
  have ho := Value.blocks3 m c t₀ (flush0_3 t₀)
  have hz : (fun a => (win0_3.index t₀) a * main_v2_0.ty.shape.size a) = fun _ => 0 := funext fun a => by fin_cases a <;> decide
  have hr := fun f => Memref.read_access_unit_zero (Elt Ideal) main_v2_0 hz (fun a => by fin_cases a <;> decide) f
  rw [hr, Value.flushed3, block0, block1, block2] at ho
  rw [ho]
  unfold out0_3 k0_pay12 k0_pay13 k0_pay14 hsOut
  rw [View.canon_unit_zero zero2, View.ld_unit_zero zero2, View.ld_unit_zero zero2, View.ld_unit_zero zero2]
  exact ext_row fun i => hs_val _ _ _ _ _ _ (x_at m c) (w_at m c) (s_at m c) i

/-- Result 2 after the run. -/
theorem final1 : (dats m 0 c).arrAt 4 cfg0.N = hcOut (m ((c : Thread nD τ).loc main_arg0)) (m ((c : Thread nD τ).loc main_arg1))
    (m ((c : Thread nD τ).loc main_arg2)) := by
  have ho := Value.blocks4 m c t₀ (flush0_4 t₀)
  have hz : (fun a => (win0_4.index t₀) a * main_v2_1.ty.shape.size a) = fun _ => 0 := funext fun a => by fin_cases a <;> decide
  have hr := fun f => Memref.read_access_unit_zero (Elt Ideal) main_v2_1 hz (fun a => by fin_cases a <;> decide) f
  rw [hr, Value.flushed4, block0, block1, block2] at ho
  rw [ho]
  unfold out0_4 k0_pay12 k0_pay13 k0_pay14 hcOut
  rw [View.canon_unit_zero zero2, View.ld_unit_zero zero2, View.ld_unit_zero zero2, View.ld_unit_zero zero2]
  exact ext_mat fun i j => hc_val _ _ _ _ _ _ (x_at m c) (w_at m c) (s_at m c) i j

/-- Result 3 after the run. -/
theorem final2 : (dats m 0 c).arrAt 5 cfg0.N = xcOut (m ((c : Thread nD τ).loc main_arg0)) := by
  have ho := Value.blocks5 m c t₀ (flush0_5 t₀)
  have hz : (fun a => (win0_5.index t₀) a * main_v2_2.ty.shape.size a) = fun _ => 0 := funext fun a => by fin_cases a <;> decide
  have hr := fun f => Memref.read_access_unit_zero (Elt Ideal) main_v2_2 hz (fun a => by fin_cases a <;> decide) f
  rw [hr, Value.flushed5, block0, block1, block2] at ho
  rw [ho]
  unfold out0_5 k0_pay13 xcOut
  rw [View.canon_unit_zero zero2, View.ld_unit_zero zero2]
  exact ext_mat fun i k => codes _ _ (x_at m c) i k

/-- Result 4 after the run. -/
theorem final3 : (dats m 0 c).arrAt 6 cfg0.N = xsOut (m ((c : Thread nD τ).loc main_arg0)) := by
  have ho := Value.blocks6 m c t₀ (flush0_6 t₀)
  have hz : (fun a => (win0_6.index t₀) a * main_v2_3.ty.shape.size a) = fun _ => 0 := funext fun a => by fin_cases a <;> decide
  have hr := fun f => Memref.read_access_unit_zero (Elt Ideal) main_v2_3 hz (fun a => by fin_cases a <;> decide) f
  rw [hr, Value.flushed6, block0, block1, block2] at ho
  rw [ho]
  unfold out0_6 k0_pay14 xsOut
  rw [View.canon_unit_zero zero2, View.ld_unit_zero zero2]
  exact ext_row fun i => xs_val _ _ (x_at m c) i

end Cert.Values.Reference

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem Cert.Values

/-- From arguments that agree, the kernel and the reference end with the same four arrays: each is the same function of
    the arguments in both. -/
theorem algebraic : Cert.algebraic_KernelIdeal_ReferenceIdeal := by
  intro m g m' g' _ hagree
  refine ⟨fun c => hsOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => hcOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => xcOut (m ((c.tc : Thread Cert.KernelIdeal.nD Cert.KernelIdeal.τ).loc Cert.KernelIdeal.main_arg0)),
    fun c => xsOut (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (final0 m c), (h c).2.1.trans (final1 m c), (h c).2.2.1.trans (final2 m c),
        (h c).2.2.2.1.trans (final3 m c), (h c).2.2.2.2⟩)
      (Cert.KernelIdeal.Value.run_blocks (F := Ideal) m g)
  · refine (θ_run Cert.ReferenceIdeal.defs _ _).mono
      (fun _ h c => ⟨(h c).1.trans ((Reference.final0 m' c).trans ?_), (h c).2.1.trans ((Reference.final1 m' c).trans ?_),
        (h c).2.2.1.trans ((Reference.final2 m' c).trans ?_), (h c).2.2.2.1.trans ((Reference.final3 m' c).trans ?_),
        (h c).2.2.2.2⟩)
      (Cert.ReferenceIdeal.Value.run_blocks (F := Ideal) m' g')
    · rw [(hagree c).1, (hagree c).2.1, (hagree c).2.2]
    · rw [(hagree c).1, (hagree c).2.1, (hagree c).2.2]
    · rw [(hagree c).1]
    · rw [(hagree c).1]

/-- Every claim: three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
